-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S20000x4 : Shape := ⟨2, ![20000, 4]⟩
abbrev S20000x80 : Shape := ⟨2, ![20000, 80]⟩
abbrev S_ : Shape := ⟨0, ![]⟩

class Facts : Prop where
  bcast_S_S20000x80 : S_.BroadcastsInDim S20000x80 (![] : Fin 0 → Fin S20000x80.rank)
  reducesTo_S20000x80_S_d0_1 : S20000x80.ReducesTo [0, 1] S_
  h_S_ : 0 < S_.numel

variable [Facts]

def fn {F : FTy → Type} [FloatOps F] (main_arg0 : FVec F S20000x4 .f32) (main_arg1 : FVec F S20000x80 .f32) : IVec S_ 1 :=
  let main_cst : FVec F S_ .f32 := constant S_ .f32 0x7F800000#32
  let main_v0 : FVec F S20000x80 .f32 := broadcastInDim S20000x80 ![] bcast_S_S20000x80 main_cst
  let main_v1 : IVec S20000x80 1 := cmpf .olt main_arg1 main_v0
  let main_c : IVec S_ 1 := constantI S_ 1 1#1
  let main_v2 : IVec S_ 1 := (fun x v => Host.reduce IntOp.andi x v reducesTo_S20000x80_S_d0_1 h_S_) main_v1 main_c
  main_v2
-- ==== Kernel.lean ====
abbrev S20000x4 : Shape := ⟨2, ![20000, 4]⟩
abbrev S20000x80 : Shape := ⟨2, ![20000, 80]⟩
abbrev S80x20000 : Shape := ⟨2, ![80, 20000]⟩
abbrev S4x20000 : Shape := ⟨2, ![4, 20000]⟩
abbrev S5x20x16 : Shape := ⟨3, ![5, 20, 16]⟩
abbrev S5x16x20 : Shape := ⟨3, ![5, 16, 20]⟩
abbrev S80x20 : Shape := ⟨2, ![80, 20]⟩
abbrev S80 : Shape := ⟨1, ![80]⟩
abbrev S80x1 : Shape := ⟨2, ![80, 1]⟩
abbrev S_ : Shape := ⟨0, ![]⟩
abbrev S1600x1 : Shape := ⟨2, ![1600, 1]⟩
abbrev S80x20x1 : Shape := ⟨3, ![80, 20, 1]⟩
abbrev S80x20x3 : Shape := ⟨3, ![80, 20, 3]⟩
abbrev S1600x3 : Shape := ⟨2, ![1600, 3]⟩
abbrev S1x20000x4 : Shape := ⟨3, ![1, 20000, 4]⟩
abbrev S1x80x20000 : Shape := ⟨3, ![1, 80, 20000]⟩
abbrev S1x1600x3 : Shape := ⟨3, ![1, 1600, 3]⟩
abbrev S16x20000 : Shape := ⟨2, ![16, 20000]⟩
abbrev S1x20x16 : Shape := ⟨3, ![1, 20, 16]⟩
abbrev S1x20000 : Shape := ⟨2, ![1, 20000]⟩
abbrev S16 : Shape := ⟨1, ![16]⟩
abbrev S16x1 : Shape := ⟨2, ![16, 1]⟩
abbrev S1x16 : Shape := ⟨2, ![1, 16]⟩
abbrev S1x1x16 : Shape := ⟨3, ![1, 1, 16]⟩

abbrev nBuf : Space → Nat
  | .hbm => 29
  | .vmem => 6
  | .smem => 0
  | _ => 0

abbrev bufTy : (tb : Table) → Fin (tcTables nBuf tb) → BufTy
  | .hbm, ⟨0, _⟩ => ⟨S20000x4, .f32⟩
  | .hbm, ⟨1, _⟩ => ⟨S20000x80, .f32⟩
  | .hbm, ⟨2, _⟩ => ⟨S80x20000, .f32⟩
  | .hbm, ⟨3, _⟩ => ⟨S4x20000, .f32⟩
  | .hbm, ⟨4, _⟩ => ⟨S5x20x16, .i32⟩
  | .hbm, ⟨5, _⟩ => ⟨S5x16x20, .i32⟩
  | .hbm, ⟨6, _⟩ => ⟨S80x20, .i32⟩
  | .hbm, ⟨7, _⟩ => ⟨S80, .i32⟩
  | .hbm, ⟨8, _⟩ => ⟨S80x1, .i32⟩
  | .hbm, ⟨9, _⟩ => ⟨S80x20, .i32⟩
  | .hbm, ⟨10, _⟩ => ⟨S_, .i32⟩
  | .hbm, ⟨11, _⟩ => ⟨S80x20, .i32⟩
  | .hbm, ⟨12, _⟩ => ⟨S_, .i32⟩
  | .hbm, ⟨13, _⟩ => ⟨S80x20, .i32⟩
  | .hbm, ⟨14, _⟩ => ⟨S80x20, .i1⟩
  | .hbm, ⟨15, _⟩ => ⟨S1600x1, .i1⟩
  | .hbm, ⟨16, _⟩ => ⟨S80x20x1, .i32⟩
  | .hbm, ⟨17, _⟩ => ⟨S80x20x1, .i32⟩
  | .hbm, ⟨18, _⟩ => ⟨S80x20x1, .i32⟩
  | .hbm, ⟨19, _⟩ => ⟨S80x20x3, .i32⟩
  | .hbm, ⟨20, _⟩ => ⟨S1600x3, .i32⟩
  | .hbm, ⟨21, _⟩ => ⟨S_, .i32⟩
  | .hbm, ⟨22, _⟩ => ⟨S_, .i32⟩
  | .hbm, ⟨23, _⟩ => ⟨S1600x3, .i1⟩
  | .hbm, ⟨24, _⟩ => ⟨S1600x3, .i32⟩
  | .hbm, ⟨25, _⟩ => ⟨S1600x3, .i32⟩
  | .hbm, ⟨26, _⟩ => ⟨S1x20000x4, .f32⟩
  | .hbm, ⟨27, _⟩ => ⟨S1x80x20000, .f32⟩
  | .hbm, ⟨28, _⟩ => ⟨S1x1600x3, .i32⟩
  | .local _ .vmem, ⟨0, _⟩ => ⟨S16x20000, .f32⟩
  | .local _ .vmem, ⟨1, _⟩ => ⟨S16x20000, .f32⟩
  | .local _ .vmem, ⟨2, _⟩ => ⟨S4x20000, .f32⟩
  | .local _ .vmem, ⟨3, _⟩ => ⟨S1x20x16, .i32⟩
  | .local _ .vmem, ⟨4, _⟩ => ⟨S1x20x16, .i32⟩
  | .local _ .vmem, ⟨5, _⟩ => ⟨S16x20000, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_c : Ref sig .tc := ⟨.hbm, 10, rfl⟩
abbrev main_call0_v8 : Ref sig .tc := ⟨.hbm, 11, rfl⟩
abbrev main_call0_c_0 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_c_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_v17 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S20000x4 : Shape := ⟨2, ![20000, 4]⟩
abbrev S20000x80 : Shape := ⟨2, ![20000, 80]⟩
abbrev S_ : Shape := ⟨0, ![]⟩
abbrev S20000 : Shape := ⟨1, ![20000]⟩
abbrev S80x20000 : Shape := ⟨2, ![80, 20000]⟩
abbrev S20x80 : Shape := ⟨2, ![20, 80]⟩
abbrev S80 : Shape := ⟨1, ![80]⟩
abbrev S80x1 : Shape := ⟨2, ![80, 1]⟩
abbrev S80x2 : Shape := ⟨2, ![80, 2]⟩
abbrev S80x1x4 : Shape := ⟨3, ![80, 1, 4]⟩
abbrev S80x4 : Shape := ⟨2, ![80, 4]⟩
abbrev S20000x1 : Shape := ⟨2, ![20000, 1]⟩
abbrev S1x20000 : Shape := ⟨2, ![1, 20000]⟩
abbrev S1x80 : Shape := ⟨2, ![1, 80]⟩
abbrev S80x20 : Shape := ⟨2, ![80, 20]⟩
abbrev S1600x1 : Shape := ⟨2, ![1600, 1]⟩
abbrev S80x20x1 : Shape := ⟨3, ![80, 20, 1]⟩
abbrev S80x20x3 : Shape := ⟨3, ![80, 20, 3]⟩
abbrev S1600x3 : Shape := ⟨2, ![1600, 3]⟩
abbrev S1x20000x4 : Shape := ⟨3, ![1, 20000, 4]⟩
abbrev S1x80x20000 : Shape := ⟨3, ![1, 80, 20000]⟩
abbrev S1x1600x3 : Shape := ⟨3, ![1, 1600, 3]⟩

abbrev nBuf : Space → Nat
  | .hbm => 184
  | .vmem => 0
  | .smem => 0
  | _ => 0

abbrev hbmTy0_0 (i : Nat) : BufTy := match i % 128 with
  | 0 => ⟨S20000x4, .f32⟩
  | 1 => ⟨S20000x80, .f32⟩
  | 2 => ⟨S_, .f32⟩
  | 3 => ⟨S20000x80, .f32⟩
  | 4 => ⟨S20000x80, .i1⟩
  | 5 => ⟨S_, .f32⟩
  | 6 => ⟨S_, .f32⟩
  | 7 => ⟨S20000, .f32⟩
  | 8 => ⟨S80x20000, .i1⟩
  | 9 => ⟨S80x20000, .f32⟩
  | 10 => ⟨S80x20000, .f32⟩
  | 11 => ⟨S80x20000, .f32⟩
  | 12 => ⟨S_, .i32⟩
  | 13 => ⟨S20x80, .i32⟩
  | 14 => ⟨S_, .i32⟩
  | 15 => ⟨S20000x4, .f32⟩
  | 16 => ⟨S_, .i32⟩
  | 17 => ⟨S80x20000, .f32⟩
  | 18 => ⟨S20x80, .i32⟩
  | 19 => ⟨S_, .i32⟩
  | 20 => ⟨S_, .i1⟩
  | 21 => ⟨S80x20000, .i32⟩
  | 22 => ⟨S_, .f32⟩
  | 23 => ⟨S_, .i32⟩
  | 24 => ⟨S80, .f32⟩
  | 25 => ⟨S80, .i32⟩
  | 26 => ⟨S_, .f32⟩
  | 27 => ⟨S80, .f32⟩
  | 28 => ⟨S80, .f32⟩
  | 29 => ⟨S_, .f32⟩
  | 30 => ⟨S80, .f32⟩
  | 31 => ⟨S80, .i1⟩
  | 32 => ⟨S_, .i32⟩
  | 33 => ⟨S80, .i32⟩
  | 34 => ⟨S80, .i1⟩
  | 35 => ⟨S_, .i32⟩
  | 36 => ⟨S80, .i32⟩
  | 37 => ⟨S80, .i32⟩
  | 38 => ⟨S80, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S80x1, .i32⟩
  | 48 => ⟨S80x1, .i32⟩
  | 49 => ⟨S80x2, .i32⟩
  | 50 => ⟨S80x1x4, .f32⟩
  | 51 => ⟨S80x4, .f32⟩
  | 52 => ⟨S80x1, .f32⟩
  | 53 => ⟨S80, .f32⟩
  | 54 => ⟨S20000x1, .f32⟩
  | 55 => ⟨S20000, .f32⟩
  | 56 => ⟨S1x20000, .f32⟩
  | 57 => ⟨S80x1, .f32⟩
  | 58 => ⟨S80x20000, .f32⟩
  | 59 => ⟨S80x20000, .f32⟩
  | 60 => ⟨S80x20000, .f32⟩
  | 61 => ⟨S80x1, .f32⟩
  | 62 => ⟨S80, .f32⟩
  | 63 => ⟨S20000x1, .f32⟩
  | 64 => ⟨S20000, .f32⟩
  | 65 => ⟨S1x20000, .f32⟩
  | 66 => ⟨S80x1, .f32⟩
  | 67 => ⟨S80x20000, .f32⟩
  | 68 => ⟨S80x20000, .f32⟩
  | 69 => ⟨S80x20000, .f32⟩
  | 70 => ⟨S80x1, .f32⟩
  | 71 => ⟨S80, .f32⟩
  | 72 => ⟨S20000x1, .f32⟩
  | 73 => ⟨S20000, .f32⟩
  | 74 => ⟨S1x20000, .f32⟩
  | 75 => ⟨S80x1, .f32⟩
  | 76 => ⟨S80x20000, .f32⟩
  | 77 => ⟨S80x20000, .f32⟩
  | 78 => ⟨S80x20000, .f32⟩
  | 79 => ⟨S80x1, .f32⟩
  | 80 => ⟨S80, .f32⟩
  | 81 => ⟨S20000x1, .f32⟩
  | 82 => ⟨S20000, .f32⟩
  | 83 => ⟨S1x20000, .f32⟩
  | 84 => ⟨S80x1, .f32⟩
  | 85 => ⟨S80x20000, .f32⟩
  | 86 => ⟨S80x20000, .f32⟩
  | 87 => ⟨S80x20000, .f32⟩
  | 88 => ⟨S80x20000, .f32⟩
  | 89 => ⟨S_, .f32⟩
  | 90 => ⟨S80x20000, .f32⟩
  | 91 => ⟨S80x20000, .f32⟩
  | 92 => ⟨S80x20000, .f32⟩
  | 93 => ⟨S_, .f32⟩
  | 94 => ⟨S80x20000, .f32⟩
  | 95 => ⟨S80x20000, .f32⟩
  | 96 => ⟨S80x20000, .f32⟩
  | 97 => ⟨S80x1, .f32⟩
  | 98 => ⟨S80, .f32⟩
  | 99 => ⟨S80x1, .f32⟩
  | 100 => ⟨S80, .f32⟩
  | 101 => ⟨S80, .f32⟩
  | 102 => ⟨S80x1, .f32⟩
  | 103 => ⟨S80, .f32⟩
  | 104 => ⟨S80x1, .f32⟩
  | 105 => ⟨S80, .f32⟩
  | 106 => ⟨S80, .f32⟩
  | 107 => ⟨S80, .f32⟩
  | 108 => ⟨S20000x1, .f32⟩
  | 109 => ⟨S20000, .f32⟩
  | 110 => ⟨S20000x1, .f32⟩
  | 111 => ⟨S20000, .f32⟩
  | 112 => ⟨S20000, .f32⟩
  | 113 => ⟨S20000x1, .f32⟩
  | 114 => ⟨S20000, .f32⟩
  | 115 => ⟨S20000x1, .f32⟩
  | 116 => ⟨S20000, .f32⟩
  | 117 => ⟨S20000, .f32⟩
  | 118 => ⟨S20000, .f32⟩
  | 119 => ⟨S1x20000, .f32⟩
  | 120 => ⟨S80x1, .f32⟩
  | 121 => ⟨S80x20000, .f32⟩
  | 122 => ⟨S80x20000, .f32⟩
  | 123 => ⟨S80x20000, .f32⟩
  | 124 => ⟨S80x20000, .f32⟩
  | 125 => ⟨S_, .f32⟩
  | 126 => ⟨S80x20000, .f32⟩
  | 127 => ⟨S80x20000, .f32⟩
  | _ => ⟨S20000x4, .f32⟩

abbrev hbmTy0_1 (i : Nat) : BufTy := match i % 128 with
  | 0 => ⟨S80x20000, .f32⟩
  | 1 => ⟨S_, .f32⟩
  | 2 => ⟨S80x20000, .f32⟩
  | 3 => ⟨S80x20000, .i1⟩
  | 4 => ⟨S80x1, .i1⟩
  | 5 => ⟨S80x20000, .i1⟩
  | 6 => ⟨S80x20000, .i1⟩
  | 7 => ⟨S_, .f32⟩
  | 8 => ⟨S_, .f32⟩
  | 9 => ⟨S20000, .f32⟩
  | 10 => ⟨S80x20000, .f32⟩
  | 11 => ⟨S80x20000, .f32⟩
  | 12 => ⟨S20000, .i32⟩
  | 13 => ⟨S1x20000, .i32⟩
  | 14 => ⟨S80x1, .i32⟩
  | 15 => ⟨S80x20000, .i32⟩
  | 16 => ⟨S80x20000, .i32⟩
  | 17 => ⟨S80x20000, .i1⟩
  | 18 => ⟨S_, .f32⟩
  | 19 => ⟨S_, .f32⟩
  | 20 => ⟨S20000, .f32⟩
  | 21 => ⟨S80x20000, .f32⟩
  | 22 => ⟨S80x20000, .f32⟩
  | 23 => ⟨S_, .i32⟩
  | 24 => ⟨S_, .i32⟩
  | 25 => ⟨S80, .i32⟩
  | 26 => ⟨S80, .i32⟩
  | 27 => ⟨S1x80, .i32⟩
  | 28 => ⟨S_, .i32⟩
  | 29 => ⟨S20x80, .i32⟩
  | 30 => ⟨S_, .i32⟩
  | 31 => ⟨S_, .i32⟩
  | 32 => ⟨S80x20, .i32⟩
  | 33 => ⟨S80, .i32⟩
  | 34 => ⟨S80x1, .i32⟩
  | 35 => ⟨S80x20, .i32⟩
  | 36 => ⟨S_, .i32⟩
  | 37 => ⟨S80x20, .i32⟩
  | 38 => ⟨S_, .i32⟩
  | 39 => ⟨S80x20, .i32⟩
  | 40 => ⟨S80x20, .i1⟩
  | 41 => ⟨S1600x1, .i1⟩
  | 42 => ⟨S80x20x1, .i32⟩
  | 43 => ⟨S80x20x1, .i32⟩
  | 44 => ⟨S80x20x1, .i32⟩
  | 45 => ⟨S80x20x3, .i32⟩
  | 46 => ⟨S1600x3, .i32⟩
  | 47 => ⟨S_, .i32⟩
  | 48 => ⟨S_, .i32⟩
  | 49 => ⟨S1600x3, .i1⟩
  | 50 => ⟨S1600x3, .i32⟩
  | 51 => ⟨S1600x3, .i32⟩
  | 52 => ⟨S1x20000x4, .f32⟩
  | 53 => ⟨S80x20000, .f32⟩
  | 54 => ⟨S1x80x20000, .f32⟩
  | 55 => ⟨S1x1600x3, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_1 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_while0c_c_8 : Ref sig .tc := ⟨.hbm, 19, rfl⟩
abbrev main_while0c_v23 : Ref sig .tc := ⟨.hbm, 20, rfl⟩
abbrev main_while0b_call1_v0 : Ref sig .tc := ⟨.hbm, 21, rfl⟩
abbrev main_while0b_call1_cst : Ref sig .tc := ⟨.hbm, 22, rfl⟩
abbrev main_while0b_call1_c : Ref sig .tc := ⟨.hbm, 23, rfl⟩
abbrev main_while0b_call1_v1_0 : Ref sig .tc := ⟨.hbm, 24, rfl⟩
abbrev main_while0b_v23 : Ref sig .tc := ⟨.hbm, 25, rfl⟩
abbrev main_while0b_cst_8 : Ref sig .tc := ⟨.hbm, 26, rfl⟩
abbrev main_while0b_v24 : Ref sig .tc := ⟨.hbm, 27, rfl⟩
abbrev main_while0b_v25 : Ref sig .tc := ⟨.hbm, 28, rfl⟩
abbrev main_while0b_cst_9 : Ref sig .tc := ⟨.hbm, 29, rfl⟩
abbrev main_while0b_v26 : Ref sig .tc := ⟨.hbm, 30, rfl⟩
abbrev main_while0b_v27 : Ref sig .tc := ⟨.hbm, 31, rfl⟩
abbrev main_while0b_c_10 : Ref sig .tc := ⟨.hbm, 32, rfl⟩
abbrev main_while0b_v28 : Ref sig .tc := ⟨.hbm, 33, rfl⟩
abbrev main_while0b_v29 : Ref sig .tc := ⟨.hbm, 34, rfl⟩
abbrev main_while0b_c_11 : Ref sig .tc := ⟨.hbm, 35, rfl⟩
abbrev main_while0b_v30 : Ref sig .tc := ⟨.hbm, 36, rfl⟩
abbrev main_while0b_v31 : Ref sig .tc := ⟨.hbm, 37, rfl⟩
abbrev main_while0b_v32 : Ref sig .tc := ⟨.hbm, 38, rfl⟩
abbrev main_while0b_c_12 : Ref sig .tc := ⟨.hbm, 39, rfl⟩
abbrev main_while0b_c_13 : Ref sig .tc := ⟨.hbm, 40, rfl⟩
abbrev main_while0b_v33 : Ref sig .tc := ⟨.hbm, 41, rfl⟩
abbrev main_while0b_c_14 : Ref sig .tc := ⟨.hbm, 42, rfl⟩
abbrev main_while0b_c_15 : Ref sig .tc := ⟨.hbm, 43, rfl⟩
abbrev main_while0b_v34 : Ref sig .tc := ⟨.hbm, 44, rfl⟩
abbrev main_while0b_c_16 : Ref sig .tc := ⟨.hbm, 45, rfl⟩
abbrev main_while0b_v35 : Ref sig .tc := ⟨.hbm, 46, rfl⟩
abbrev main_while0b_v36 : Ref sig .tc := ⟨.hbm, 47, rfl⟩
abbrev main_while0b_v37 : Ref sig .tc := ⟨.hbm, 48, rfl⟩
abbrev main_while0b_v38 : Ref sig .tc := ⟨.hbm, 49, rfl⟩
abbrev main_while0b_v39 : Ref sig .tc := ⟨.hbm, 50, rfl⟩
abbrev main_while0b_v40 : Ref sig .tc := ⟨.hbm, 51, rfl⟩
abbrev main_while0b_v41 : Ref sig .tc := ⟨.hbm, 52, rfl⟩
abbrev main_while0b_v42 : Ref sig .tc := ⟨.hbm, 53, rfl⟩
abbrev main_while0b_v43 : Ref sig .tc := ⟨.hbm, 54, rfl⟩
abbrev main_while0b_v44 : Ref sig .tc := ⟨.hbm, 55, rfl⟩
abbrev main_while0b_v45 : Ref sig .tc := ⟨.hbm, 56, rfl⟩
abbrev main_while0b_v46 : Ref sig .tc := ⟨.hbm, 57, rfl⟩
abbrev main_while0b_v47 : Ref sig .tc := ⟨.hbm, 58, rfl⟩
abbrev main_while0b_v48 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_v54 : Ref sig .tc := ⟨.hbm, 65, rfl⟩
abbrev main_while0b_v55 : Ref sig .tc := ⟨.hbm, 66, rfl⟩
abbrev main_while0b_v56 : Ref sig .tc := ⟨.hbm, 67, rfl⟩
abbrev main_while0b_v57 : Ref sig .tc := ⟨.hbm, 68, rfl⟩
abbrev main_while0b_v58 : Ref sig .tc := ⟨.hbm, 69, rfl⟩
abbrev main_while0b_v59 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_cst_17 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_cst_18 : Ref sig .tc := ⟨.hbm, 93, rfl⟩
abbrev main_while0b_v81 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_v97 : Ref sig .tc := ⟨.hbm, 110, rfl⟩
abbrev main_while0b_v98 : Ref sig .tc := ⟨.hbm, 111, rfl⟩
abbrev main_while0b_v99 : Ref sig .tc := ⟨.hbm, 112, rfl⟩
abbrev main_while0b_v100 : Ref sig .tc := ⟨.hbm, 113, rfl⟩
abbrev main_while0b_v101 : Ref sig .tc := ⟨.hbm, 114, rfl⟩
abbrev main_while0b_v102 : Ref sig .tc := ⟨.hbm, 115, rfl⟩
abbrev main_while0b_v103 : Ref sig .tc := ⟨.hbm, 116, rfl⟩
abbrev main_while0b_v104 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_v111 : Ref sig .tc := ⟨.hbm, 124, rfl⟩
abbrev main_while0b_cst_19 : Ref sig .tc := ⟨.hbm, 125, rfl⟩
abbrev main_while0b_v112 : Ref sig .tc := ⟨.hbm, 126, rfl⟩
abbrev main_while0b_v113 : Ref sig .tc := ⟨.hbm, 127, rfl⟩
abbrev main_while0b_v114 : Ref sig .tc := ⟨.hbm, 128, rfl⟩
abbrev main_while0b_cst_20 : Ref sig .tc := ⟨.hbm, 129, rfl⟩
abbrev main_while0b_v115 : Ref sig .tc := ⟨.hbm, 130, rfl⟩
abbrev main_while0b_v116 : Ref sig .tc := ⟨.hbm, 131, rfl⟩
abbrev main_while0b_v117 : Ref sig .tc := ⟨.hbm, 132, rfl⟩
abbrev main_while0b_v118 : Ref sig .tc := ⟨.hbm, 133, rfl⟩
abbrev main_while0b_v119 : Ref sig .tc := ⟨.hbm, 134, rfl⟩
abbrev main_while0b_cst_21 : Ref sig .tc := ⟨.hbm, 135, rfl⟩
abbrev main_while0b_call2_v0 : Ref sig .tc := ⟨.hbm, 136, rfl⟩
abbrev main_while0b_call2_v1 : Ref sig .tc := ⟨.hbm, 137, rfl⟩
abbrev main_while0b_call2_v2 : Ref sig .tc := ⟨.hbm, 138, rfl⟩
abbrev main_while0b_v120 : Ref sig .tc := ⟨.hbm, 139, rfl⟩
abbrev main_while0b_v121 : Ref sig .tc := ⟨.hbm, 140, rfl⟩
abbrev main_while0b_v122 : Ref sig .tc := ⟨.hbm, 141, rfl⟩
abbrev main_while0b_v123 : Ref sig .tc := ⟨.hbm, 142, rfl⟩
abbrev main_while0b_v124 : Ref sig .tc := ⟨.hbm, 143, rfl⟩
abbrev main_while0b_v125 : Ref sig .tc := ⟨.hbm, 144, rfl⟩
abbrev main_while0b_v126 : Ref sig .tc := ⟨.hbm, 145, rfl⟩
abbrev main_while0b_cst_22 : Ref sig .tc := ⟨.hbm, 146, rfl⟩
abbrev main_while0b_call3_v0 : Ref sig .tc := ⟨.hbm, 147, rfl⟩
abbrev main_while0b_call3_v1 : Ref sig .tc := ⟨.hbm, 148, rfl⟩
abbrev main_while0b_call3_v2 : Ref sig .tc := ⟨.hbm, 149, rfl⟩
abbrev main_while0b_v127 : Ref sig .tc := ⟨.hbm, 150, rfl⟩
abbrev main_while0b_c_23 : Ref sig .tc := ⟨.hbm, 151, rfl⟩
abbrev main_while0b_call4_v0 : Ref sig .tc := ⟨.hbm, 152, rfl⟩
abbrev main_while0b_call4_v1 : Ref sig .tc := ⟨.hbm, 153, rfl⟩
abbrev main_while0b_v128 : Ref sig .tc := ⟨.hbm, 154, rfl⟩
abbrev main_while0b_call5_v0 : Ref sig .tc := ⟨.hbm, 155, rfl⟩
abbrev main_while0b_call5_c : Ref sig .tc := ⟨.hbm, 156, rfl⟩
abbrev main_while0b_v129 : Ref sig .tc := ⟨.hbm, 157, rfl⟩
abbrev main_while0b_c_24 : Ref sig .tc := ⟨.hbm, 158, rfl⟩
abbrev main_while0b_v130 : Ref sig .tc := ⟨.hbm, 159, rfl⟩
abbrev main_v5 : Ref sig .tc := ⟨.hbm, 160, rfl⟩
abbrev main_v6 : Ref sig .tc := ⟨.hbm, 161, rfl⟩
abbrev main_v7 : Ref sig .tc := ⟨.hbm, 162, rfl⟩
abbrev main_v8 : Ref sig .tc := ⟨.hbm, 163, rfl⟩
abbrev main_c_2 : Ref sig .tc := ⟨.hbm, 164, rfl⟩
abbrev main_v9 : Ref sig .tc := ⟨.hbm, 165, rfl⟩
abbrev main_c_3 : Ref sig .tc := ⟨.hbm, 166, rfl⟩
abbrev main_v10 : Ref sig .tc := ⟨.hbm, 167, rfl⟩
abbrev main_v11 : Ref sig .tc := ⟨.hbm, 168, rfl⟩
abbrev main_v12 : Ref sig .tc := ⟨.hbm, 169, rfl⟩
abbrev main_v13 : Ref sig .tc := ⟨.hbm, 170, rfl⟩
abbrev main_v14 : Ref sig .tc := ⟨.hbm, 171, rfl⟩
abbrev main_v15 : Ref sig .tc := ⟨.hbm, 172, rfl⟩
abbrev main_v16 : Ref sig .tc := ⟨.hbm, 173, rfl⟩
abbrev main_v17 : Ref sig .tc := ⟨.hbm, 174, rfl⟩
abbrev main_c_4 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_v18 : Ref sig .tc := ⟨.hbm, 179, rfl⟩
abbrev main_v19 : Ref sig .tc := ⟨.hbm, 180, rfl⟩
abbrev main_v20 : Ref sig .tc := ⟨.hbm, 181, rfl⟩
abbrev main_v21 : Ref sig .tc := ⟨.hbm, 182, rfl⟩
abbrev main_v22 : Ref sig .tc := ⟨.hbm, 183, rfl⟩

abbrev nD : Nat := 1
abbrev τ : Topo := Topo.v7x

variable {F : FTy → Type} [FloatOps F]

abbrev main_while0_count : Scf.Loop 32 := ⟨0#32, 20#32, 1#32⟩
-- ==== Proof.Spec.lean ====
/- Greedy suppression of one class's scores, over the extended reals, written on plain functions of the box number.
   Both programs are read as this: the kernel's block of sixteen rows and the reference's eighty rows at once.

   A row of scores `u` has a greatest value `top u` and the least box number `first u` that attains it. One step
   (`next`) sets to −∞ the score of that box and of every box overlapping it by more than a tenth; the number a step
   reports (`pick`) is that box's, or −1 when no score is left above −∞. -/
module

public import Idealize.ShloMosaic.Lib.WordCmp
public import Idealize.ShloMosaic.Lib.Pointwise
public import Idealize.ShloMosaic.PureOps.Ideal.Laws

@[expose] public section

noncomputable section

namespace Cert.Nms

open Idealize.ShloMosaic

/-! ## The two float words -/

/-- The word of −∞ denotes the least extended real. -/
theorem negInf : Ideal.ofBits .f32 0xFF800000#32 = ⊥ := by simp [Ideal.ofBits, Ideal.ieee]

/-- The word of +∞ denotes the greatest extended real. -/
theorem posInf : Ideal.ofBits .f32 0x7F800000#32 = ⊤ := by simp [Ideal.ofBits, Ideal.ieee]

/-! ## The greatest score and the first box that has it -/

variable {n : ℕ}

/-- The greatest of a row's scores. -/
def top (u : Fin n → EReal) : EReal := Finset.univ.sup u

/-- `k` is the least box number whose score is the row's greatest. -/
structure IsFirst (u : Fin n → EReal) (k : Fin n) : Prop where
  eq : u k = top u
  ne : ∀ j < k, u j ≠ top u

/-- No score exceeds the greatest. -/
theorem le_top (u : Fin n → EReal) (j : Fin n) : u j ≤ top u := Finset.le_sup (Finset.mem_univ j)

/-- A score that no score exceeds is the greatest. -/
theorem eq_top_of_forall_le (u : Fin n → EReal) (k : Fin n) (h : ∀ j, u j ≤ u k) : u k = top u :=
  le_antisymm (le_top u k) (Finset.sup_le fun j _ => h j)

/-- In a row that is not empty some box is the first with the greatest score. -/
theorem exists_isFirst [NeZero n] (u : Fin n → EReal) : ∃ k, IsFirst u k := by
  classical
  obtain ⟨k, -, hk⟩ := Finset.exists_mem_eq_sup Finset.univ ⟨(0 : Fin n), Finset.mem_univ _⟩ u
  have hne : (Finset.univ.filter fun j => u j = top u).Nonempty := ⟨k, by simp [top, hk]⟩
  refine ⟨(Finset.univ.filter fun j => u j = top u).min' hne, ?_, fun j hj he => ?_⟩
  · simpa using Finset.min'_mem _ hne
  · exact absurd (Finset.min'_le _ j (by simpa using he)) (not_le.mpr hj)

/-- The least box number whose score is the row's greatest. -/
def first [NeZero n] (u : Fin n → EReal) : Fin n := (exists_isFirst u).choose

/-- `first` is what its name says. -/
theorem isFirst_first [NeZero n] (u : Fin n → EReal) : IsFirst u (first u) := (exists_isFirst u).choose_spec

/-- Only one box is the first with the greatest score. -/
theorem IsFirst.eq_first [NeZero n] {u : Fin n → EReal} {k : Fin n} (h : IsFirst u k) : first u = k := by
  have h' := isFirst_first u
  rcases lt_trichotomy (first u) k with hlt | he | hgt
  · exact absurd h'.eq (h.ne _ hlt)
  · exact he
  · exact absurd h.eq (h'.ne _ hgt)

/-- The fold of `max` from −∞ over a row is its greatest score. -/
theorem fold_max (u : Fin n → EReal) :
    Finset.univ.fold max (Ideal.ofBits .f32 0xFF800000#32) (fun x => u x) = top u := by
  rw [negInf]; rfl

/-- The least signed word among the numbers of the boxes with the greatest score, every other box counted as 20000,
    is the number of the first of them. -/
theorem fold_minsi [NeZero n] (hn : n ≤ 20000) (u : Fin n → EReal) :
    Finset.univ.fold IntOp.minsi 2147483647#32 (fun x : Fin n => if u x = top u then BitVec.ofNat 32 x.val else 20000#32)
      = BitVec.ofNat 32 (first u).val := by
  have hw : ∀ a : ℕ, a ≤ 20000 → (BitVec.ofNat 32 a).toInt = (a : ℤ) := fun a ha => by
    rw [BitVec.toInt_eq_toNat_cond, BitVec.toNat_ofNat]; split <;> omega
  have hm : ∀ a b : BitVec 32, (IntOp.minsi a b).toInt = min a.toInt b.toInt := by
    intro a b
    unfold IntOp.minsi
    split
    · rename_i h; rw [min_eq_left]; simpa [BitVec.slt] using (show a.toInt ≤ b.toInt by simp_all [BitVec.slt, BitVec.sle]; try omega)
    · rename_i h; rw [min_eq_right]; simp_all [BitVec.slt, BitVec.sle]; try omega
  have hfirst := isFirst_first u
  have hlt : (first u).val < 20000 := lt_of_lt_of_le (first u).isLt hn
  apply BitVec.eq_of_toInt_eq
  rw [← Finset.fold_hom (op' := min) (m := BitVec.toInt) hm, hw _ hlt.le]
  apply le_antisymm
  · rw [Finset.fold_min_le]
    refine Or.inr ⟨first u, Finset.mem_univ _, ?_⟩
    rw [if_pos hfirst.eq, hw _ hlt.le]
  · rw [Finset.le_fold_min]
    refine ⟨?_, fun x _ => ?_⟩
    · rw [show (2147483647#32 : BitVec 32).toInt = 2147483647 from by decide]; omega
    · by_cases hx : u x = top u
      · rw [if_pos hx, hw _ (le_of_lt (lt_of_lt_of_le x.isLt hn))]
        have : first u ≤ x := not_lt.mp fun h => hfirst.ne x h hx
        exact_mod_cast this
      · rw [if_neg hx, show (20000#32 : BitVec 32).toInt = 20000 from by decide]; omega

/-- The sum of a row's entries, all but the one at `k` replaced by zero, is the entry at `k`. -/
theorem sum_one_hot (hn : n ≤ 20000) (f : Fin n → EReal) (k : Fin n) :
    (∑ x : Fin n, Scalar.select (IntOp.cmpi .eq (BitVec.ofNat 32 x.val) (BitVec.ofNat 32 k.val)) (f x) 0) = f k := by
  rw [Finset.sum_eq_single k]
  · simp [Scalar.select, IntOp.cmpi]
  · intro x _ hx
    have : ¬ (BitVec.ofNat 32 x.val = BitVec.ofNat 32 k.val) := by
      intro he
      have := congrArg BitVec.toNat he
      simp only [BitVec.toNat_ofNat] at this
      have hx' := x.isLt; have hk' := k.isLt
      rw [Nat.mod_eq_of_lt (by omega), Nat.mod_eq_of_lt (by omega)] at this
      exact hx (Fin.ext this)
    rw [WordCmp.cmpi_eq_eq, decide_eq_false this]
    rfl
  · intro h; exact absurd (Finset.mem_univ k) h

/-! ## One step -/

/-- The common area of boxes `k` and `j`, given by their corners. -/
def inter (Y1 X1 Y2 X2 : Fin n → EReal) (k j : Fin n) : EReal :=
  max 0 (min (Y2 k) (Y2 j) - max (Y1 k) (Y1 j)) * max 0 (min (X2 k) (X2 j) - max (X1 k) (X1 j))

/-- How much boxes `k` and `j` overlap: their common area over the area they cover together, a small constant added. -/
def overlap (Y1 X1 Y2 X2 : Fin n → EReal) (k j : Fin n) : EReal :=
  Ideal.div (inter Y1 X1 Y2 X2 k j)
    ((Y2 k - Y1 k) * (X2 k - X1 k) + (Y2 j - Y1 j) * (X2 j - X1 j) - inter Y1 X1 Y2 X2 k j + Ideal.ofBits .f32 0x3089705F#32)

open Classical in
/-- A row's scores after one step: −∞ at the chosen box and at those overlapping it by more than a tenth, if a score
    above −∞ was left to choose. -/
def next [NeZero n] (Y1 X1 Y2 X2 : Fin n → EReal) (u : Fin n → EReal) : Fin n → EReal := fun j =>
  if (Ideal.ofBits .f32 0x3DCCCCCD#32 < overlap Y1 X1 Y2 X2 (first u) j ∧ ⊥ < top u) ∨ j = first u then ⊥ else u j

open Classical in
/-- The number a step reports: the chosen box's, or the word of −1 when no score is above −∞. -/
def pick [NeZero n] (u : Fin n → EReal) : BitVec 32 := if ⊥ < top u then BitVec.ofNat 32 (first u).val else 4294967295#32

open Classical in
/-- The scores a row begins with: those of at least three tenths, −∞ in place of the others. -/
def start (u : Fin n → EReal) : Fin n → EReal := fun j => if Ideal.ofBits .f32 0x3E99999A#32 ≤ u j then u j else ⊥

/-- Scores below +∞ begin below +∞. -/
theorem start_lt_top (u : Fin n → EReal) (h : ∀ j, u j < ⊤) (j : Fin n) : start u j < ⊤ := by
  unfold start; split
  · exact h j
  · exact bot_lt_top

/-- Scores below +∞ stay below +∞. -/
theorem next_lt_top [NeZero n] (Y1 X1 Y2 X2 u : Fin n → EReal) (h : ∀ j, u j < ⊤) (j : Fin n) :
    next Y1 X1 Y2 X2 u j < ⊤ := by
  unfold next; split
  · exact bot_lt_top
  · exact h j

/-- The greatest of scores below +∞ is below +∞. -/
theorem top_lt_top [NeZero n] (u : Fin n → EReal) (h : ∀ j, u j < ⊤) : top u < ⊤ := by
  rw [← (isFirst_first u).eq]; exact h _

/-- Below +∞, a value's magnitude is below +∞ exactly when the value is above −∞. -/
theorem abs_lt_top_iff (a : EReal) (h : a < ⊤) : max a (-a) < ⊤ ↔ ⊥ < a := by
  rw [max_lt_iff, EReal.neg_lt_comm, EReal.neg_top]
  exact ⟨fun h => h.2, fun h' => ⟨h, h'⟩⟩

/-- The scores of a row after `t` steps. -/
def after [NeZero n] (Y1 X1 Y2 X2 u : Fin n → EReal) (t : ℕ) : Fin n → EReal := (next Y1 X1 Y2 X2)^[t] (start u)

/-- One more step is one more `next`. -/
theorem after_succ [NeZero n] (Y1 X1 Y2 X2 u : Fin n → EReal) (t : ℕ) :
    after Y1 X1 Y2 X2 u (t + 1) = next Y1 X1 Y2 X2 (after Y1 X1 Y2 X2 u t) := Function.iterate_succ_apply' _ _ _

/-- Scores below +∞ are below +∞ after every step. -/
theorem after_lt_top [NeZero n] (Y1 X1 Y2 X2 u : Fin n → EReal) (h : ∀ j, u j < ⊤) (t : ℕ) (j : Fin n) :
    after Y1 X1 Y2 X2 u t j < ⊤ := by
  induction t generalizing j with
  | zero => exact start_lt_top u h j
  | succ t ih => rw [after_succ]; exact next_lt_top _ _ _ _ _ ih j

/-! ## Bits that say whether something holds -/

/-- Two box numbers' words are equal exactly when the boxes are. -/
theorem eq_word (hn : n ≤ 20000) (j k : Fin n) :
    IntOp.cmpi .eq (BitVec.ofNat 32 j.val) (BitVec.ofNat 32 k.val) = BitVec.ofBool (decide (j = k)) := by
  rw [WordCmp.cmpi_eq_ofNat (by have := j.isLt; omega) (by have := k.isLt; omega)]
  simp only [Fin.ext_iff]

/-- Choosing by the bit of `A` and `B`, or `C`. -/
theorem select_or {α : Type} (A B C : Prop) [Decidable A] [Decidable B] [Decidable C] [Decidable (A ∧ B ∨ C)] (a b : α) :
    Scalar.select (IntOp.ori (IntOp.andi (BitVec.ofBool (decide A)) (BitVec.ofBool (decide B))) (BitVec.ofBool (decide C))) a b
      = if A ∧ B ∨ C then a else b := by
  by_cases hA : A <;> by_cases hB : B <;> by_cases hC : C <;> simp [hA, hB, hC, Scalar.select, IntOp.ori, IntOp.andi]

/-- Choosing by the bit of `C`, then by that of `A` and `B`. -/
theorem select_select {α : Type} (A B C : Prop) [Decidable A] [Decidable B] [Decidable C] [Decidable (A ∧ B ∨ C)] (a b : α) :
    Scalar.select (BitVec.ofBool (decide C)) a
        (Scalar.select (IntOp.andi (BitVec.ofBool (decide A)) (BitVec.ofBool (decide B))) a b)
      = if A ∧ B ∨ C then a else b := by
  by_cases hA : A <;> by_cases hB : B <;> by_cases hC : C <;> simp [hA, hB, hC, Scalar.select, IntOp.andi]

/-- Choosing between the word of the chosen box and that of −1 by the bit that says a score is left. -/
theorem select_pick [NeZero n] (u : Fin n → EReal) [Decidable (⊥ < top u)] :
    Scalar.select (BitVec.ofBool (decide (⊥ < top u))) (BitVec.ofNat 32 (first u).val) 4294967295#32 = pick u := by
  unfold pick
  by_cases h : ⊥ < top u <;> simp [h, Scalar.select]

/-! ## The host's search for the greatest value and its index -/

/-- One comparison of the host's search: the pair with the greater value, on equal values the one with the lesser index. -/
def better (a b : EReal × BitVec 32) : EReal × BitVec 32 :=
  if b.1 < a.1 ∨ (a.1 = b.1 ∧ a.2.toInt < b.2.toInt) then a else b

/-- The pair a comparison keeps is one of the two, and neither beats it. -/
theorem better_spec (a b : EReal × BitVec 32) :
    (better a b = a ∨ better a b = b)
      ∧ (∀ p, p = a ∨ p = b → p.1 < (better a b).1 ∨ (p.1 = (better a b).1 ∧ (better a b).2.toInt ≤ p.2.toInt)) := by
  unfold better
  split
  · rename_i h
    refine ⟨Or.inl rfl, fun p hp => ?_⟩
    rcases hp with rfl | rfl
    · exact Or.inr ⟨rfl, le_refl _⟩
    · rcases h with h | ⟨h, h'⟩
      · exact Or.inl h
      · exact Or.inr ⟨h.symm, h'.le⟩
  · rename_i h
    rw [not_or, not_lt, not_and, not_lt] at h
    refine ⟨Or.inr rfl, fun p hp => ?_⟩
    rcases hp with rfl | rfl
    · rcases h.1.lt_or_eq with hl | he
      · exact Or.inl hl
      · exact Or.inr ⟨he, h.2 he⟩
    · exact Or.inr ⟨rfl, le_refl _⟩

/-- The pair that a search through a list keeps is the first one or on the list, and none of them beats it. -/
theorem foldl_better (l : List (EReal × BitVec 32)) (a : EReal × BitVec 32) :
    (l.foldl better a = a ∨ l.foldl better a ∈ l)
      ∧ (∀ p, p = a ∨ p ∈ l → p.1 < (l.foldl better a).1
          ∨ (p.1 = (l.foldl better a).1 ∧ (l.foldl better a).2.toInt ≤ p.2.toInt)) := by
  induction l generalizing a with
  | nil => exact ⟨Or.inl rfl, fun p hp => by simp at hp; subst hp; exact Or.inr ⟨rfl, le_refl _⟩⟩
  | cons b l ih =>
    obtain ⟨hmem, hbest⟩ := ih (better a b)
    obtain ⟨hab, hkeep⟩ := better_spec a b
    rw [List.foldl_cons]
    refine ⟨?_, fun p hp => ?_⟩
    · rcases hmem with h | h
      · rw [h]; rcases hab with h | h
        · exact Or.inl h
        · right; rw [h]; exact List.mem_cons_self ..
      · exact Or.inr (List.mem_cons_of_mem _ h)
    · have htrans : p = a ∨ p = b → p.1 < (l.foldl better (better a b)).1
          ∨ (p.1 = (l.foldl better (better a b)).1 ∧ (l.foldl better (better a b)).2.toInt ≤ p.2.toInt) := fun hp => by
        rcases hkeep p hp with h | ⟨h, h'⟩ <;> rcases hbest _ (Or.inl rfl) with g | ⟨g, g'⟩
        · exact Or.inl (h.trans g)
        · exact Or.inl (g ▸ h)
        · exact Or.inl (h ▸ g)
        · exact Or.inr ⟨h.trans g, g'.trans h'⟩
      rcases hp with rfl | hp
      · exact htrans (Or.inl rfl)
      · rcases List.mem_cons.mp hp with rfl | hp
        · exact htrans (Or.inr rfl)
        · exact hbest p (Or.inr hp)

/-- A search from `(−∞, 0)` through the pairs of a row's scores and box numbers, in any order, ends with the number of
    the first box that has the greatest score. -/
theorem foldl_better_first [NeZero n] (hn : n ≤ 20000) (u : Fin n → EReal) (l : List (EReal × BitVec 32))
    (hl : ∀ p, p ∈ l ↔ ∃ k : Fin n, p = (u k, BitVec.ofNat 32 k.val)) :
    (l.foldl better (⊥, 0#32)).2 = BitVec.ofNat 32 (first u).val := by
  have hw : ∀ k : Fin n, (BitVec.ofNat 32 k.val).toInt = (k.val : ℤ) := fun k => by
    have := k.isLt
    rw [BitVec.toInt_eq_toNat_cond, BitVec.toNat_ofNat]; split <;> omega
  obtain ⟨hmem, hbest⟩ := foldl_better l (⊥, 0#32)
  have hle : ∀ k : Fin n, u k ≤ (l.foldl better (⊥, 0#32)).1 := fun k => by
    rcases hbest _ (Or.inr ((hl _).mpr ⟨k, rfl⟩)) with h | ⟨h, -⟩
    · exact h.le
    · exact h.le
  rcases hmem with h | h
  · rw [h] at hle ⊢
    have h0 : IsFirst u 0 := ⟨eq_top_of_forall_le u 0 fun j => (hle j).trans bot_le, fun j hj => absurd hj (Fin.not_lt_zero j)⟩
    rw [h0.eq_first]; simp
  · obtain ⟨k, hk⟩ := (hl _).mp h
    rw [hk] at hle hbest ⊢
    have hk' : IsFirst u k := by
      have htop : u k = top u := eq_top_of_forall_le u k hle
      refine ⟨htop, fun j hj he => ?_⟩
      rcases hbest _ (Or.inr ((hl _).mpr ⟨j, rfl⟩)) with g | ⟨-, g⟩
      · exact absurd g (by simp only [he, htop]; exact lt_irrefl _)
      · simp only [hw] at g
        have : k ≤ j := by exact_mod_cast g
        exact absurd this (not_le.mpr hj)
    rw [hk'.eq_first]

end Cert.Nms

end
-- ==== Proof.Decode.lean ====
/- The precondition read: where the printed predicate is all ones, every score is below +∞. -/
module

public import proofs.«01_k».proof.Pre_scores_below_infinity
public import proofs.«01_k».proof.Proof.Spec
public import Idealize.ShloMosaic.Lib.Pointwise
public import Idealize.ShloMosaic.Lib.Decide

@[expose] public section

set_option maxRecDepth 16384

noncomputable section

namespace Cert.Pre_scores_below_infinity

open Idealize.ShloMosaic

/-- The side conditions of the printed predicate. -/
theorem facts : Facts := ⟨by decide, by decide, by decide⟩

/-- A conjunction of bits is set only where every bit is. -/
theorem fold_andi {ι : Type} (x : BitVec 1) (f : ι → BitVec 1) (s : Finset ι) (h : Finset.fold IntOp.andi x f s = 1#1) :
    ∀ i ∈ s, f i = 1#1 := by
  classical
  have both : ∀ a b : BitVec 1, IntOp.andi a b = 1#1 → a = 1#1 ∧ b = 1#1 := by decide
  induction s using Finset.induction_on with
  | empty => intro i hi; exact absurd hi (Finset.notMem_empty i)
  | insert a s ha ih =>
    rw [Finset.fold_insert ha] at h
    intro i hi
    rcases Finset.mem_insert.mp hi with rfl | hi
    · exact (both _ _ h).1
    · exact ih (both _ _ h).2 i hi

/-- Where the predicate holds, every score is below +∞. -/
theorem lt_top [Facts] (b : FVec Ideal S20000x4 .f32) (u : FVec Ideal S20000x80 .f32)
    (h : fn (F := Ideal) b u = fun _ => 1#1) (j : Fin 20000) (r : Fin 80) : u (ix2 j r) < (⊤ : EReal) := by
  have h1 := congrFun h (fun a => a.elim0)
  unfold fn at h1
  dsimp only at h1
  rw [Host.reduce_eq_fold] at h1
  have h2 := fold_andi _ _ _ h1 (ix2 j r) (Finset.mem_filter.mpr ⟨Finset.mem_univ _, funext fun a => a.elim0⟩)
  have h3 : BitVec.ofBool (decide (u (ix2 j r) < Ideal.ofBits .f32 0x7F800000#32)) = 1#1 := h2
  rw [Nms.posInf] at h3
  by_contra hn
  rw [decide_eq_false hn] at h3
  exact absurd h3 (by decide)

end Cert.Pre_scores_below_infinity

end
-- ==== Proof.KernelRun.lean ====
/-
  What one grid point of the kernel computes, as a plain recursion: the scores of its block of 16 classes
  (`start`), the scores after one more selection (`step`), and the row of indices a selection gives (`pick`).
  The body is written out twenty times; each copy is shown to be `step` and `pick` of the scores it reads.
-/
module

public import proofs.«01_k».proof.Proof.Gen.KernelIdeal.Frame
public import Idealize.ShloMosaic.Lib.VecWindow
public import Idealize.ShloMosaic.Lib.Pipeline.ReadBack
public import Idealize.ShloMosaic.Lib.Pointwise

@[expose] public section

set_option maxRecDepth 16384

noncomputable section

namespace Cert.KernelIdeal.Run

open Idealize.ShloMosaic Idealize.ShloMosaic.TcCoe Cert.KernelIdeal.Gen

variable {F : FTy → Type} [FloatOps F]

/-- The scores a grid point starts from: the block's scores, with those under the threshold at minus infinity. -/
def start (x0 : FVec F S16x20000 .f32) : FVec F S16x20000 .f32 := k0_pay3 x0

/-- The four coordinates of the boxes, one row each, as the body loads them from its block of transposed boxes. -/
def coord0 (x1 : Vec F S4x20000 .f32) : Vec F S1x20000 .f32 :=
  View.ld x1 (Rect.unit (s := S4x20000) ![0, 0] S1x20000.size inb_S4x20000_S1x20000_0_0)
/-- The second coordinate. -/
def coord1 (x1 : Vec F S4x20000 .f32) : Vec F S1x20000 .f32 :=
  View.ld x1 (Rect.unit (s := S4x20000) ![1, 0] S1x20000.size inb_S4x20000_S1x20000_1_0)
/-- The third coordinate. -/
def coord2 (x1 : Vec F S4x20000 .f32) : Vec F S1x20000 .f32 :=
  View.ld x1 (Rect.unit (s := S4x20000) ![2, 0] S1x20000.size inb_S4x20000_S1x20000_2_0)
/-- The fourth coordinate. -/
def coord3 (x1 : Vec F S4x20000 .f32) : Vec F S1x20000 .f32 :=
  View.ld x1 (Rect.unit (s := S4x20000) ![3, 0] S1x20000.size inb_S4x20000_S1x20000_3_0)

/-- One selection: the greatest score of each class and its first index, and minus infinity put at that index
    and at every box overlapping the selected one. -/
def stepOf (y1 x1 y2 x2 : Vec F S1x20000 .f32) (s : FVec F S16x20000 .f32) : FVec F S16x20000 .f32 :=
  k0_pay20 (Scalar.ofBits .f32 0xFF800000#32) s (k0_pay11 s) (k0_pay12 s)
    (k0_pay18 (k0_pay4 y1) (k0_pay5 x1) (k0_pay6 y2) (k0_pay7 x2) (k0_pay12 s)
      (Scalar.ofBits .f32 0x00000000#32) (k0_pay13 y1))
    (k0_pay19 (k0_pay4 y1) (k0_pay5 x1) (k0_pay6 y2) (k0_pay7 x2)
      (k0_pay8 y1 x1 y2 x2) (k0_pay12 s)
      (Scalar.ofBits .f32 0x00000000#32) (k0_pay13 y1))

/-- One selection, over the block of transposed boxes. -/
def step (x1 : Vec F S4x20000 .f32) (s : FVec F S16x20000 .f32) : FVec F S16x20000 .f32 :=
  stepOf (coord0 x1) (coord1 x1) (coord2 x1) (coord3 x1) s

/-- The row of indices one selection gives: the first index of the greatest score, or -1 when that score is minus infinity. -/
def pick (s : FVec F S16x20000 .f32) : IVec S1x1x16 32 := k0_pay21 (k0_pay10 s) (k0_pay11 s)

/-- The scores after a number of selections. -/
def scores (x0 : Vec F S16x20000 .f32) (x1 : Vec F S4x20000 .f32) (n : ℕ) : FVec F S16x20000 .f32 := (step x1)^[n] (start x0)

/-- One selection more. -/
theorem scores_succ (x0 : Vec F S16x20000 .f32) (x1 : Vec F S4x20000 .f32) (n : ℕ) :
    scores x0 x1 (n + 1) = step x1 (scores x0 x1 n) := Function.iterate_succ_apply' _ _ _

/-- The block of indices a grid point writes: row `t` is the row of indices selection `t` gives. -/
def block (x0 : Vec F S16x20000 .f32) (x1 : Vec F S4x20000 .f32) : Vec F S1x20x16 .i32 :=
  fun y => pick (scores x0 x1 (y 1).val) (ix3 (0 : Fin 1) (0 : Fin 1) (y 2))

/-- The block read at row `t` is that row of indices. -/
theorem pick_row (x0 : Vec F S16x20000 .f32) (x1 : Vec F S4x20000 .f32) (t : ℕ) (x : S1x1x16.Idx) (ht : t < 20)
    (inb : ∀ a, (![0, t, 0] : Fin 3 → ℕ) a + S1x1x16.size a ≤ S1x20x16.size a) :
    pick (scores x0 x1 t) x = block x0 x1 ((Rect.unit (s := S1x20x16) ![0, t, 0] S1x1x16.size inb).emb x) := by
  have h0 : x 0 = (0 : Fin 1) := Subsingleton.elim (α := Fin 1) _ _
  have h1 : x 1 = (0 : Fin 1) := Subsingleton.elim (α := Fin 1) _ _
  have e1 : (((Rect.unit (s := S1x20x16) ![0, t, 0] S1x1x16.size inb).emb x) 1).val = t := by
    show t + 1 * (x 1).val = t
    rw [h1]; rfl
  have e2 : ((Rect.unit (s := S1x20x16) ![0, t, 0] S1x1x16.size inb).emb x) 2 = x 2 := Fin.ext (by
    show 0 + 1 * (x 2).val = (x 2).val
    omega)
  show _ = pick (scores x0 x1 _) (ix3 (0 : Fin 1) (0 : Fin 1) _)
  rw [e1, e2]
  exact congrArg _ ((eq_ix3 x).trans (by rw [h0, h1]))

section Words

variable (c : Dev nD) (arg1 : Memref sig .tc .vmem S16x20000 .f32) (harg1 : arg1.IsWhole)
  (arg2 : Memref sig .tc .vmem S4x20000 .f32) (harg2 : arg2.IsWhole) (arg4 : Memref sig .tc .vmem S16x20000 .f32)
  (x0 : Vec F S16x20000 .f32) (x1 : Vec F S4x20000 .f32)

/-- Loading all of the block of scores gives that block. -/
theorem load_scores : View.readAt (Elt F) arg1.view (Rect.unit ![0, 0] S16x20000.size inb_S16x20000_S16x20000_0_0).toLoadRect (harg1.unread x0) = x0 :=
  (View.readAt_full _ _ _).trans (harg1.read_unread x0)

/-- Loading row 0 of the transposed boxes gives that coordinate. -/
theorem load_coord0 : View.readAt (Elt F) arg2.view (Rect.unit (s := S4x20000) ![0, 0] S1x20000.size inb_S4x20000_S1x20000_0_0).toLoadRect (harg2.unread x1) = coord0 x1 := by
  rw [View.readAt_eq_ld, harg2.read_unread]; rfl

/-- Loading row 1 of the transposed boxes gives that coordinate. -/
theorem load_coord1 : View.readAt (Elt F) arg2.view (Rect.unit (s := S4x20000) ![1, 0] S1x20000.size inb_S4x20000_S1x20000_1_0).toLoadRect (harg2.unread x1) = coord1 x1 := by
  rw [View.readAt_eq_ld, harg2.read_unread]; rfl

/-- Loading row 2 of the transposed boxes gives that coordinate. -/
theorem load_coord2 : View.readAt (Elt F) arg2.view (Rect.unit (s := S4x20000) ![2, 0] S1x20000.size inb_S4x20000_S1x20000_2_0).toLoadRect (harg2.unread x1) = coord2 x1 := by
  rw [View.readAt_eq_ld, harg2.read_unread]; rfl

/-- Loading row 3 of the transposed boxes gives that coordinate. -/
theorem load_coord3 : View.readAt (Elt F) arg2.view (Rect.unit (s := S4x20000) ![3, 0] S1x20000.size inb_S4x20000_S1x20000_3_0).toLoadRect (harg2.unread x1) = coord3 x1 := by
  rw [View.readAt_eq_ld, harg2.read_unread]; rfl

/-- One selection, in the words of the body: the coordinates are what its loads of rows 0 to 3 of the boxes give. -/
def copy (s : FVec F S16x20000 .f32) : FVec F S16x20000 .f32 :=
  stepOf (View.readAt (Elt F) arg2.view (Rect.unit (s := S4x20000) ![0, 0] S1x20000.size inb_S4x20000_S1x20000_0_0).toLoadRect (harg2.unread x1))
    (View.readAt (Elt F) arg2.view (Rect.unit (s := S4x20000) ![1, 0] S1x20000.size inb_S4x20000_S1x20000_1_0).toLoadRect (harg2.unread x1))
    (View.readAt (Elt F) arg2.view (Rect.unit (s := S4x20000) ![2, 0] S1x20000.size inb_S4x20000_S1x20000_2_0).toLoadRect (harg2.unread x1))
    (View.readAt (Elt F) arg2.view (Rect.unit (s := S4x20000) ![3, 0] S1x20000.size inb_S4x20000_S1x20000_3_0).toLoadRect (harg2.unread x1)) s

/-- That is the step. -/
theorem copy_eq (s : FVec F S16x20000 .f32) : copy arg2 harg2 x1 s = step x1 s := by
  unfold copy step
  rw [load_coord0 arg2 harg2 x1, load_coord1 arg2 harg2 x1, load_coord2 arg2 harg2 x1, load_coord3 arg2 harg2 x1]

variable {arg2 harg2 x0 x1}

/-- A copy of the body that reads `n` selections' scores stores those of `n + 1`. -/
theorem copy_succ {n : ℕ} {s s' : FVec F S16x20000 .f32} (h : s = scores x0 x1 n) (e : s' = copy arg2 harg2 x1 s) :
    s' = scores x0 x1 (n + 1) := by
  rw [e, copy_eq, h, scores_succ]

variable (arg2 harg2 x0 x1)

/-- The first copy of the body reads the starting scores. -/
theorem read0 : kernelRun0_A.sl.v21 c arg1 harg1 arg4 x0 = scores x0 x1 0 := by
  refine (View.readCov_full (Val := Elt F) _ _ _ _ _).trans ?_
  rw [load_scores]; rfl

/-- The selection that reads `t` selections' scores writes row `t` of the block of indices. -/
theorem row_eq {s : FVec F S16x20000 .f32} {t : ℕ} (h : s = scores x0 x1 t) (ht : t < 20)
    (inb : ∀ a, (![0, t, 0] : Fin 3 → ℕ) a + S1x1x16.size a ≤ S1x20x16.size a) (x : S1x1x16.Idx) :
    pick s x = block x0 x1 ((Rect.unit (s := S1x20x16) ![0, t, 0] S1x1x16.size inb).emb x) := by
  rw [h]
  exact pick_row x0 x1 t x ht inb

/-- What the body leaves in its block of results. -/
theorem block_eq (i : grid0.Coords) (arg3 : Memref sig .tc .vmem S1x20x16 .i32) (harg3 : arg3.IsWhole) (harg4 : arg4.IsWhole) :
    out0_A_2 c i arg1 harg1 arg2 harg2 arg3 harg3 arg4 harg4 x0 x1 = block x0 x1 := by
  have next : ∀ {n : ℕ} {s s' : FVec F S16x20000 .f32}, s = scores x0 x1 n → s' = copy arg2 harg2 x1 s → s' = scores x0 x1 (n + 1) :=
    copy_succ
  have h0 := read0 c arg1 harg1 arg4 x0 x1
  have h1 : kernelRun0_A.sl.v104 c arg1 harg1 arg2 harg2 arg4 x0 x1 = _ := next h0 (View.readCov_full _ _ _ _ _)
  have h2 : kernelRun0_A.sl.v187 c arg1 harg1 arg2 harg2 arg4 x0 x1 = _ := next h1 (View.readCov_full _ _ _ _ _)
  have h3 : kernelRun0_A.sl.v270 c arg1 harg1 arg2 harg2 arg4 x0 x1 = _ := next h2 (View.readCov_full _ _ _ _ _)
  have h4 : kernelRun0_A.sl.v353 c arg1 harg1 arg2 harg2 arg4 x0 x1 = _ := next h3 (View.readCov_full _ _ _ _ _)
  have h5 : kernelRun0_A.sl.v436 c arg1 harg1 arg2 harg2 arg4 x0 x1 = _ := next h4 (View.readCov_full _ _ _ _ _)
  have h6 : kernelRun0_A.sl.v519 c arg1 harg1 arg2 harg2 arg4 x0 x1 = _ := next h5 (View.readCov_full _ _ _ _ _)
  have h7 : kernelRun0_A.sl.v602 c arg1 harg1 arg2 harg2 arg4 x0 x1 = _ := next h6 (View.readCov_full _ _ _ _ _)
  have h8 : kernelRun0_A.sl.v685 c arg1 harg1 arg2 harg2 arg4 x0 x1 = _ := next h7 (View.readCov_full _ _ _ _ _)
  have h9 : kernelRun0_A.sl.v768 c arg1 harg1 arg2 harg2 arg4 x0 x1 = _ := next h8 (View.readCov_full _ _ _ _ _)
  have h10 : kernelRun0_A.sl.v851 c arg1 harg1 arg2 harg2 arg4 x0 x1 = _ := next h9 (View.readCov_full _ _ _ _ _)
  have h11 : kernelRun0_A.sl.v934 c arg1 harg1 arg2 harg2 arg4 x0 x1 = _ := next h10 (View.readCov_full _ _ _ _ _)
  have h12 : kernelRun0_A.sl.v1017 c arg1 harg1 arg2 harg2 arg4 x0 x1 = _ := next h11 (View.readCov_full _ _ _ _ _)
  have h13 : kernelRun0_A.sl.v1100 c arg1 harg1 arg2 harg2 arg4 x0 x1 = _ := next h12 (View.readCov_full _ _ _ _ _)
  have h14 : kernelRun0_A.sl.v1183 c arg1 harg1 arg2 harg2 arg4 x0 x1 = _ := next h13 (View.readCov_full _ _ _ _ _)
  have h15 : kernelRun0_A.sl.v1266 c arg1 harg1 arg2 harg2 arg4 x0 x1 = _ := next h14 (View.readCov_full _ _ _ _ _)
  have h16 : kernelRun0_A.sl.v1349 c arg1 harg1 arg2 harg2 arg4 x0 x1 = _ := next h15 (View.readCov_full _ _ _ _ _)
  have h17 : kernelRun0_A.sl.v1432 c arg1 harg1 arg2 harg2 arg4 x0 x1 = _ := next h16 (View.readCov_full _ _ _ _ _)
  have h18 : kernelRun0_A.sl.v1515 c arg1 harg1 arg2 harg2 arg4 x0 x1 = _ := next h17 (View.readCov_full _ _ _ _ _)
  have h19 : kernelRun0_A.sl.v1598 c arg1 harg1 arg2 harg2 arg4 x0 x1 = _ := next h18 (View.readCov_full _ _ _ _ _)
  unfold out0_A_2
  rw [View.read_writes_junk_eq_canon]
  funext y
  have key : View.PiecesOf (block x0 x1) (kernelRun0_A c i arg1 harg1 arg2 harg2 arg3 harg3 arg4 harg4 x0 x1).1 := by
    unfold kernelRun0_A
    dsimp only
    exact ⟨row_eq x0 x1 h19 (by decide) inb_S1x20x16_S1x1x16_0_19_0, row_eq x0 x1 h18 (by decide) inb_S1x20x16_S1x1x16_0_18_0,
      row_eq x0 x1 h17 (by decide) inb_S1x20x16_S1x1x16_0_17_0, row_eq x0 x1 h16 (by decide) inb_S1x20x16_S1x1x16_0_16_0,
      row_eq x0 x1 h15 (by decide) inb_S1x20x16_S1x1x16_0_15_0, row_eq x0 x1 h14 (by decide) inb_S1x20x16_S1x1x16_0_14_0,
      row_eq x0 x1 h13 (by decide) inb_S1x20x16_S1x1x16_0_13_0, row_eq x0 x1 h12 (by decide) inb_S1x20x16_S1x1x16_0_12_0,
      row_eq x0 x1 h11 (by decide) inb_S1x20x16_S1x1x16_0_11_0, row_eq x0 x1 h10 (by decide) inb_S1x20x16_S1x1x16_0_10_0,
      row_eq x0 x1 h9 (by decide) inb_S1x20x16_S1x1x16_0_9_0, row_eq x0 x1 h8 (by decide) inb_S1x20x16_S1x1x16_0_8_0,
      row_eq x0 x1 h7 (by decide) inb_S1x20x16_S1x1x16_0_7_0, row_eq x0 x1 h6 (by decide) inb_S1x20x16_S1x1x16_0_6_0,
      row_eq x0 x1 h5 (by decide) inb_S1x20x16_S1x1x16_0_5_0, row_eq x0 x1 h4 (by decide) inb_S1x20x16_S1x1x16_0_4_0,
      row_eq x0 x1 h3 (by decide) inb_S1x20x16_S1x1x16_0_3_0, row_eq x0 x1 h2 (by decide) inb_S1x20x16_S1x1x16_0_2_0,
      row_eq x0 x1 h1 (by decide) inb_S1x20x16_S1x1x16_0_1_0, row_eq x0 x1 h0 (by decide) inb_S1x20x16_S1x1x16_0_0_0, trivial⟩
  have h := View.canon_append_of_piecesOf (block x0 x1) [] _ key y (cover0_A_2 c i arg1 harg1 arg2 harg2 arg3 harg3 arg4 harg4 x0 x1 y)
  rwa [List.append_nil] at h

end Words

end Cert.KernelIdeal.Run

end
-- ==== Proof.KernelRows.lean ====
/- The kernel's block of sixteen class rows, row by row: over the extended reals each row goes through the greedy
   suppression of `Cert.Nms`, whatever the other rows hold. -/
module

public import proofs.«01_k».proof.Proof.KernelRun
public import proofs.«01_k».proof.Proof.Spec

@[expose] public section

set_option maxRecDepth 16384

noncomputable section

namespace Cert.KernelIdeal.Run

open Idealize.ShloMosaic Idealize.ShloMosaic.TcCoe Cert.KernelIdeal.Gen

/-- Row `r` of a block of scores. -/
abbrev row (s : FVec Ideal S16x20000 .f32) (r : Fin 16) : Fin 20000 → EReal := fun j => s (ix2 r j)

/-- Corner coordinate `a` of every box, out of the block of four rows of coordinates. -/
abbrev coord (x1 : FVec Ideal S4x20000 .f32) (a : Fin 4) : Fin 20000 → EReal := fun j => x1 (ix2 a j)

/-- The kernel's index in row `r` is the first box that has the row's greatest score. -/
theorem index_row (s : FVec Ideal S16x20000 .f32) (r : Fin 16) :
    k0_pay10 (F := Ideal) s (ix2 r (0 : Fin 1)) = BitVec.ofNat 32 (Nms.first (row s r)).val := by
  pointwise [k0_pay10, k0_pay9]
  rw [Nms.fold_max (row s r)]
  exact Nms.fold_minsi le_rfl (row s r)

/-- The kernel's flag in row `r` says whether the row's greatest score is above −∞. -/
theorem flag_row (s : FVec Ideal S16x20000 .f32) (r : Fin 16) :
    k0_pay11 (F := Ideal) s (ix2 r (0 : Fin 1)) = BitVec.ofBool (decide (⊥ < Nms.top (row s r))) := by
  pointwise [k0_pay11, k0_pay9]
  rw [Nms.fold_max (row s r), Nms.negInf]

/-- A selection reports in row `r` what `Nms.pick` says of the row. -/
theorem pick_eq (s : FVec Ideal S16x20000 .f32) (r : Fin 16) :
    pick (F := Ideal) s (ix3 (0 : Fin 1) (0 : Fin 1) r) = Nms.pick (row s r) := by
  pointwise [pick, k0_pay21]
  rw [index_row, flag_row]
  exact Nms.select_pick _

/-- A block's scores begin row by row as `Nms.start` says. -/
theorem start_row (s : FVec Ideal S16x20000 .f32) (r : Fin 16) :
    row (start (F := Ideal) s) r = Nms.start (row s r) := by
  funext j
  pointwise [start, k0_pay3]
  rw [Nms.negInf]
  unfold Nms.start
  split <;> rfl

/-- A selection changes row `r` as `Nms.next` says. -/
theorem step_row (x1 : FVec Ideal S4x20000 .f32) (s : FVec Ideal S16x20000 .f32) (r : Fin 16) :
    row (step (F := Ideal) x1 s) r = Nms.next (coord x1 0) (coord x1 1) (coord x1 2) (coord x1 3) (row s r) := by
  funext j
  pointwise [step, stepOf, k0_pay20, k0_pay19, k0_pay18, k0_pay17, k0_pay16, k0_pay15, k0_pay14, k0_pay13, k0_pay12, k0_pay8,
    k0_pay7, k0_pay6, k0_pay5, k0_pay4, coord0, coord1, coord2, coord3]
  rw [index_row, flag_row]
  rw [Nms.sum_one_hot le_rfl (coord x1 0), Nms.sum_one_hot le_rfl (coord x1 1), Nms.sum_one_hot le_rfl (coord x1 2),
    Nms.sum_one_hot le_rfl (coord x1 3)]
  rw [Nms.negInf, Nms.eq_word le_rfl]
  exact Nms.select_or _ _ _ _ _

/-- The scores before selection `n`, row by row. -/
theorem scores_row (x0 : FVec Ideal S16x20000 .f32) (x1 : FVec Ideal S4x20000 .f32) (n : ℕ) (r : Fin 16) :
    row (scores (F := Ideal) x0 x1 n) r
      = Nms.after (coord x1 0) (coord x1 1) (coord x1 2) (coord x1 3) (row x0 r) n := by
  induction n with
  | zero => exact start_row x0 r
  | succ n ih => rw [scores_succ, step_row, ih, Nms.after_succ]

/-- What a grid point writes for selection `t` of class row `r`. -/
theorem block_apply (x0 : FVec Ideal S16x20000 .f32) (x1 : FVec Ideal S4x20000 .f32) (t : Fin 20) (r : Fin 16) :
    block (F := Ideal) x0 x1 (ix3 (0 : Fin 1) t r)
      = Nms.pick (Nms.after (coord x1 0) (coord x1 1) (coord x1 2) (coord x1 3) (row x0 r) t.val) :=
  (pick_eq _ r).trans (congrArg Nms.pick (scores_row x0 x1 t.val r))

end Cert.KernelIdeal.Run

end
-- ==== Proof.KernelValue.lean ====
/- The kernel's array of reported numbers after the run: entry (p, t, r) is what the greedy suppression of class
   `16 p + r`'s scores reports at step `t`. -/
module

public import proofs.«01_k».proof.Proof.KernelRows
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- What each step reports of each class, laid out as the kernel lays it out: `X` holds a class's scores per row, `b` a
    corner coordinate per row. -/
def reports (X : FVec Ideal S80x20000 .f32) (b : FVec Ideal S4x20000 .f32) : IVec S5x20x16 32 := fun i =>
  Nms.pick (Nms.after (coord b 0) (coord b 1) (coord b 2) (coord b 3)
    (fun j => X (ix2 (⟨16 * (i 0).val + (i 2).val, by
      have h0 : (i 0).val < 5 := (i 0).isLt
      have h2 : (i 2).val < 16 := (i 2).isLt
      omega⟩ : Fin 80) j)) (i 1).val)

/-- The rows of scores and the columns of boxes, as the arguments hold them, transposed. -/
abbrev rowsOf (c : Dev nD) : FVec Ideal S80x20000 .f32 :=
  transpose S80x20000 [1, 0] (m ((c.tc : Thread nD τ).loc main_arg1) : FVec Ideal S20000x80 .f32) transposes_S20000x80_S80x20000_1_0

/-- The corner coordinates, a row each. -/
abbrev cornersOf (c : Dev nD) : FVec Ideal S4x20000 .f32 :=
  transpose S4x20000 [1, 0] (m ((c.tc : Thread nD τ).loc main_arg0) : FVec Ideal S20000x4 .f32) transposes_S20000x4_S4x20000_1_0

/-- The scores' array as the region finds it. -/
theorem entry_rows (c : Dev nD) : V m c main_call0_v0 = rowsOf m c := by
  unfold V V0
  show StableHlo.after hostOps0 _ _ = _
  after_reads_simp
  rfl

/-- The coordinates' array as the region finds it. -/
theorem entry_corners (c : Dev nD) : V m c main_call0_v1 = cornersOf m c := by
  unfold V V0
  show StableHlo.after hostOps0 _ _ = _
  after_reads_simp
  rfl

/-- Which block each window moves at point `t`. -/
theorem idx : ∀ t : Fin cfg0.N, win0_0.index t = ![t.val, 0] ∧ win0_1.index t = ![0, 0] ∧ win0_2.index t = ![t.val, 0, 0] ∧ t.val < 5 :=
  (by decide +kernel : ∀ t : Fin grid0.N, _)

/-- The block of scores at point `t`, at an index. -/
theorem scores_block (c : Dev nD) (t : Fin cfg0.N) (r : Fin 16) (j : Fin 20000) (h : 16 * t.val + r.val < 80) :
    (iblk m c 0 t : FVec Ideal S16x20000 .f32) (ix2 r j) = rowsOf m c (ix2 ⟨16 * t.val + r.val, h⟩ j) := by
  rw [← entry_rows]
  blk_ext [iblk, idx t]

/-- The block of coordinates is their whole array at every point. -/
theorem corners_block (c : Dev nD) (t : Fin cfg0.N) (a : Fin 4) (j : Fin 20000) :
    (iblk m c 1 t : FVec Ideal S4x20000 .f32) (ix2 a j) = cornersOf m c (ix2 a j) := by
  rw [← entry_corners]
  blk_ext [iblk, idx t]

/-- The array the kernel writes, after the run. -/
theorem reports_final (c : Dev nD) : (dats m 0 c).arrAt 2 cfg0.N = reports (rowsOf m c) (cornersOf m c) := by
  refine (dats m 0 c).arrAt_eq_of_covers 2 _ (by decide +kernel) fun t _ y => ?_
  blk_simp
  rw [after0_2]
  unfold outsAt0
  rw [block_eq]
  obtain ⟨t1, r, rfl⟩ : ∃ (t1 : Fin 20) (r : Fin 16), y = ix3 (0 : Fin 1) t1 r := by
    refine ⟨y 1, y 2, ?_⟩
    blk_ext [idx t]
  have h5 := (idx t).2.2.2
  have hr := r.isLt
  refine (block_apply _ _ t1 r).trans ?_
  have he : ((cfg0.win 2).blk t).view.emb (ix3 (0 : Fin 1) t1 r) = (ix3 ⟨t.val, h5⟩ t1 r : S5x20x16.Idx) := by blk_ext [idx t]
  have h0 : row (iblk m c 0 t) r = fun j => rowsOf m c (ix2 (⟨16 * t.val + r.val, by omega⟩ : Fin 80) j) :=
    funext fun j => scores_block m c t r j _
  have h1 : ∀ a : Fin 4, coord (iblk m c 1 t) a = coord (cornersOf m c) a := fun a => funext fun j => corners_block m c t a j
  rw [h0, h1, h1, h1, h1]
  exact (congrArg (reports (rowsOf m c) (cornersOf m c)) he).symm

end Cert.KernelIdeal.Run

end
-- ==== Proof.KernelEnd.lean ====
/- The kernel's run: its three results and its arguments at the end, as functions of the arguments. -/
module

public import proofs.«01_k».proof.Proof.KernelValue
public import Idealize.ShloMosaic.Lib.StableHlo.RunLoop

@[expose] public section

set_option maxRecDepth 16384

noncomputable section

namespace Cert.KernelIdeal.Run

open Cert.KernelIdeal Cert.KernelIdeal.Gen
open Idealize.ShloMosaic Idealize.ShloMosaic.TcCoe Idealize.SL.Sem

/-- From a table of reported numbers, a row per class, to the list of (image, class, box) triples: three times −1 where
    nothing is reported. -/
def triples (T : IVec S80x20 32) : IVec S1x1600x3 32 :=
  broadcastInDim S1x1600x3 ![1, 2] bcast_S1600x3_S1x1600x3_1_2
    (select (broadcastInDim S1600x3 ![0, 1] bcast_S1600x1_S1600x3_0_1
        (shapeCast S1600x1 (cmpi .sge T (broadcastInDim S80x20 ![] bcast_S_S80x20 (constantI S_ 32 0#32))) shapeCasts_S80x20_S1600x1))
      (shapeCast S1600x3 (concatenate S80x20x3 2
        [⟨S80x20x1, broadcastInDim S80x20x1 ![0, 1] bcast_S80x20_S80x20x1_0_1 (broadcastInDim S80x20 ![] bcast_S_S80x20 (constantI S_ 32 0#32))⟩,
         ⟨S80x20x1, broadcastInDim S80x20x1 ![0, 1] bcast_S80x20_S80x20x1_0_1 (broadcastInDim S80x20 ![0, 1] bcast_S80x1_S80x20_0_1
            (broadcastInDim S80x1 ![0] bcast_S80_S80x1_0 (iotaInDim S80 32 0)))⟩,
         ⟨S80x20x1, broadcastInDim S80x20x1 ![0, 1] bcast_S80x20_S80x20x1_0_1 T⟩] concatenates_S80x20x1_S80x20x1_S80x20x1_S80x20x3_d2)
        shapeCasts_S80x20x3_S1600x3)
      (broadcastInDim S1600x3 ![] bcast_S_S1600x3 (constantI S_ 32 4294967295#32)))

/-- The kernel's array of numbers with a row per class. -/
def flat (P : IVec S5x20x16 32) : IVec S80x20 32 :=
  shapeCast S80x20 (transpose S5x16x20 [0, 2, 1] P transposes_S5x20x16_S5x16x20_0_2_1) shapeCasts_S5x16x20_S80x20

section
variable (V0 : Valuation τ sig (Elt Ideal))

/-- The lines after the launch copy the boxes. -/
theorem end_boxes : StableHlo.after hostOps1 V0 (Proc.devRef .tc main_v0_0)
    = broadcastInDim S1x20000x4 ![1, 2] bcast_S20000x4_S1x20000x4_1_2 (V0 (Proc.devRef .tc main_arg0)) := by
  after_results_entrywise []

/-- The lines after the launch copy the transposed scores. -/
theorem end_scores : StableHlo.after hostOps1 V0 (Proc.devRef .tc main_v0_1)
    = broadcastInDim S1x80x20000 ![1, 2] bcast_S80x20000_S1x80x20000_1_2 (V0 (Proc.devRef .tc main_call0_v0)) := by
  after_results_entrywise []

/-- The lines after the launch list the triples. -/
theorem end_triples (P : IVec S5x20x16 32) (h : V0 (Proc.devRef .tc main_call0_v2) = P) :
    StableHlo.after hostOps1 V0 (Proc.devRef .tc main_v0_2) = triples (flat P) := by
  subst h
  unfold triples flat
  after_results_entrywise []

end

variable (m : (ℓ : Loc nD τ sig) → Buf (Elt Ideal) ℓ) (ρ : Dev nD → PrngReg)

/-- The run, read: results and arguments at the end. -/
theorem run : θ_run defs (onTc (τ := τ) (main (F := Ideal))) ⟨m, fun _ => 0, ρ⟩ fun r => ∀ c : Dev nD,
      r.2.mem ((c.tc : Thread nD τ).loc main_v0_0)
          = broadcastInDim S1x20000x4 ![1, 2] bcast_S20000x4_S1x20000x4_1_2 (m ((c.tc : Thread nD τ).loc main_arg0))
      ∧ r.2.mem ((c.tc : Thread nD τ).loc main_v0_1)
          = broadcastInDim S1x80x20000 ![1, 2] bcast_S80x20000_S1x80x20000_1_2 (rowsOf m c)
      ∧ r.2.mem ((c.tc : Thread nD τ).loc main_v0_2) = triples (flat (reports (rowsOf m c) (cornersOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  have hrest := (h c).2
  refine ⟨(hrest main_v0_0 (Pipeline.mem_restRefs_of main_v0_0 (by decide) (by decide))).trans ?_,
    (hrest main_v0_1 (Pipeline.mem_restRefs_of main_v0_1 (by decide) (by decide))).trans ?_,
    (hrest main_v0_2 (Pipeline.mem_restRefs_of main_v0_2 (by decide) (by decide))).trans ?_,
    (hrest main_arg0 (Pipeline.mem_restRefs_of main_arg0 (by decide) (by decide))).trans (W_main_arg0 m (dats m) c),
    (hrest main_arg1 (Pipeline.mem_restRefs_of main_arg1 (by decide) (by decide))).trans (W_main_arg1 m (dats m) c)⟩
  · unfold Pipeline.afterTail₀
    refine (end_boxes _).trans ?_
    rw [Pipeline.withArrays_of_ne _ c (V0 m c) _ main_arg0 (by exact (by decide : ∀ w, Pipeline.arrRef spec0 w ≠ main_arg0))]
    exact congrArg (broadcastInDim S1x20000x4 ![1, 2] bcast_S20000x4_S1x20000x4_1_2) (V_main_arg0 m c)
  · unfold Pipeline.afterTail₀
    refine (end_scores _).trans ?_
    have e : Pipeline.withArrays (cfgs 0).spec c (V0 m c) (fun w => (dats m 0 c).arrAt w (cfgs 0).N) (Proc.devRef .tc main_call0_v0) = rowsOf m c :=
      (Pipeline.withArrays_arr spec0 launch0.win.arr_inj c (V0 m c) (fun w => (dats m 0 c).arrAt w (cfgs 0).N) 0).trans
        (((dats m 0 c).arrAt_in 0 rfl _).trans ((A_eq m c 0).trans (entry_rows m c)))
    exact congrArg (broadcastInDim S1x80x20000 ![1, 2] bcast_S80x20000_S1x80x20000_1_2) e
  · unfold Pipeline.afterTail₀
    exact end_triples _ _ ((Pipeline.withArrays_arr spec0 launch0.win.arr_inj c (V0 m c) (fun w => (dats m 0 c).arrAt w (cfgs 0).N) 2).trans
      (reports_final m c))

end Cert.KernelIdeal.Run

end
-- ==== Proof.RefRun.lean ====
/- The reference's program read as lists of host operations, and its run: the operations before the loop, then twenty
   trips of the loop's operations, then the operations after it. The lists are read off the program itself. -/
module

public import proofs.«01_k».proof.Proof.Gen.ReferenceIdeal
public import Idealize.ShloMosaic.Lib.Scf.Counter
public import Idealize.ShloMosaic.Lib.Scf.ExitTest
public import Idealize.ShloMosaic.Lib.StableHlo.RunHlo
public import Idealize.ShloMosaic.Lib.StableHlo.RunLoop
public import Idealize.ShloMosaic.Lib.StableHlo.RunRead

@[expose] public section

set_option maxRecDepth 16384

noncomputable section

namespace Cert.ReferenceIdeal.Value

open Cert.ReferenceIdeal Cert.ReferenceIdeal.Gen
open Idealize.ShloMosaic Idealize.ShloMosaic.TcCoe Idealize.SL Idealize.SL.Sem
open Idealize.ShloMosaic.StableHlo

variable {F : FTy → Type} [FloatOps F]

/-- The programs of the reference's TensorCore. -/
abbrev TcProg (F : FTy → Type) [FloatOps F] : Type _ :=
  Prog (TpuEff nD τ sig (Elt F) (HostLoop.Sig (Pipeline.Sig Λ₀ (Fin 0) fun p => (pcfgs (F := F) p).Adm) 1) .tc) PUnit

/-! ## The lists -/

/-- `p` runs the operations `pre`, then the loop, then the operations `post`. -/
def Around (p : TcProg F) (pre post : List (HloOp τ sig (Elt F))) : Prop :=
  p = seq pre >>= fun _ => (HostLoop.enter 0 : TcProg F) >>= fun _ => seq post

/-- A program that begins with the loop. -/
theorem Around.enter {k : TcProg F} {post : List (HloOp τ sig (Elt F))} (h : IsSeq k post) :
    Around ((HostLoop.enter 0 : TcProg F) >>= fun _ => k) [] post := by
  rw [show k = seq post from h]
  rfl

/-- A program that begins with an operation. -/
theorem Around.cons {op : HloOp τ sig (Elt F)} {k : TcProg F} {pre post : List (HloOp τ sig (Elt F))} (h : Around k pre post) :
    Around ((hlo rfl op fun _ => .ret ⟨⟩ : TcProg F) >>= fun _ => k) (op :: pre) post := by
  rw [show k = _ from h]
  rfl

/-- The operations of the program before and after the loop. -/
structure Text (F : FTy → Type) [FloatOps F] where
  /-- The operations before the loop. -/
  pre : List (HloOp τ sig (Elt F))
  /-- The operations after the loop. -/
  post : List (HloOp τ sig (Elt F))
  /-- The program is these around its loop. -/
  around : ∀ c, Around (main (F := F) c) pre post

/-- The lists, read off the program. -/
def text : Text F := by
  apply Text.mk
  intro c
  repeat apply Around.cons
  apply Around.enter
  hlo_seq

/-- The operations of one trip. -/
def tripText : {ops : List (HloOp τ sig (Elt F)) // IsSeq (nD := nD) (main_while0_body (F := F)) ops} := by
  apply Subtype.mk
  hlo_seq

/-- The operations before the loop. -/
abbrev pre : List (HloOp τ sig (Elt F)) := text.pre

/-- The operations after the loop. -/
abbrev post : List (HloOp τ sig (Elt F)) := text.post

/-- The operations of one trip. -/
abbrev trip : List (HloOp τ sig (Elt F)) := tripText.1

/-- The operations of the loop's condition: is the count below twenty. -/
def test : List (HloOp τ sig (Elt F)) :=
  [nullary main_while0c_c_8 (constantI S_ 32 20#32), binary main_v4_1 main_while0c_c_8 main_while0c_v23 (cmpi .slt)]

/-- The lists use the core's own buffers only, none of them a fresh one. -/
theorem plain : Plain [pre (F := F)] ∧ Plain [trip (F := F)] ∧ Plain [post (F := F)] := by
  refine ⟨fun ops h => ?_, fun ops h => ?_, fun ops h => ?_⟩ <;> rw [List.mem_singleton.mp h] <;>
    refine ⟨List.forall_iff_forall_mem.mp ?_, List.forall_iff_forall_mem.mp (forall_fresh_of_map rfl)⟩ <;>
    simp only [pre, trip, post, text, tripText, List.Forall, TRef.nullary, TRef.unary, TRef.binary, TRef.ternary, TRef.quaternary, nullary_bufs_sub, unary_bufs_sub, binary_bufs_sub, ternary_bufs_sub, quaternary_bufs_sub,
      reshape_bufs_sub, nary_bufs_sub, unaryIndexed_bufs_sub, binaryIndexed_bufs_sub, and_self]

/-- The program as the run's theorem wants it. -/
theorem main_eq (c : Dev nD) : main (F := F) c = Pipeline.chain (([pre].map fun ops => (seq ops : Prog _ PUnit))
    ++ HostLoop.enter 0 :: [post].map fun ops => (seq ops : Prog _ PUnit)) := by
  rw [show main (F := F) c = _ from text.around c]
  show _ = seq pre >>= fun _ => (HostLoop.enter 0 : TcProg F) >>= fun _ => (seq post >>= pure)
  rw [Prog.bind_pure]

/-- One trip as the run's theorem wants it. -/
theorem trip_eq : main_while0_body (F := F) = Pipeline.chain ([trip].map fun ops => (seq ops : Prog _ PUnit)) := by
  rw [show main_while0_body (F := F) = _ from tripText.2]
  show _ = (seq trip >>= pure)
  rw [Prog.bind_pure]

/-! ## The count -/

variable (m : (ℓ : Loc nD τ sig) → Buf (Elt F) ℓ)

/-- The buffers after `t` trips. -/
abbrev atCount (t : ℕ) (c : Dev nD) : Valuation τ sig (Elt F) := atTrip test [trip] (entryContents [pre] m) t c

/-- The condition's operations leave the count. -/
theorem test_count (V : Valuation τ sig (Elt F)) : after (test (F := F)) V (no_index (Proc.devRef .tc main_v4_1)) = V (Proc.devRef .tc main_v4_1) := by
  after_reads_simp

/-- A trip adds one to the count. -/
theorem trip_count (V : Valuation τ sig (Elt F)) :
    after (trip (F := F)) V (Proc.devRef .tc main_v4_1) = addi (V (Proc.devRef .tc main_v4_1)) (constantI S_ 32 1#32) := by
  after_reads_simp
  rfl

/-- After `t` trips the count is `t`. -/
theorem count_eq (c : Dev nD) : ∀ t, atCount m t c (Proc.devRef .tc main_v4_1) = fun _ => Scf.iv 0#32 1#32 t
  | 0 => by
    show after (pre (F := F)) _ (Proc.devRef .tc main_v4_1) = _
    after_reads_simp
    rfl
  | t + 1 => by
    show after trip (after test (atCount m t c)) (Proc.devRef .tc main_v4_1) = _
    rw [trip_count, test_count, count_eq c t, Scf.iv_succ]
    rfl

-- the rule of an operation is stated for any thread: at the TensorCore's it unifies only through plain definitions
set_option backward.isDefEq.respectTransparency.types false in
/-- The condition holds before each of twenty trips and fails after them. -/
theorem test_spec : CondSpec (pcfgs (F := F)) defs₀ loops (main_while0_cond (F := F)) test [trip] (entryContents [pre] m) 20 := by
  intro t ht c bd
  have hcount := count_eq m c t
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atCount m t c) main_v4_1 HostLoop.idx0)
        (HloOp.result _ (atCount m t c) main_while0c_c_8 HostLoop.idx0) = 1#1) (t < 20)
    rw [nullary_result_ne _ _ _ _ (by decide), nullary_result, hcount]
    exact Scf.cmpi_slt_iv_ub_iff (lb := 0#32) (ub := 20#32) (st := 1#32) (by decide) (show t ≤ Scf.trips 0#32 20#32 1#32 from ht)
  isplitl [Hb]; · iassumption
  rw [test, after_cons, after_cons, after_nil]; iassumption

/-! ## The run -/

/-- No operation writes an argument. -/
theorem kept {r : Ref sig .tc} (hr : r = main_arg0 ∨ r = main_arg1) (V : Valuation τ sig (Elt F)) :
    after pre V (Proc.devRef .tc r) = V (Proc.devRef .tc r) ∧ after test V (Proc.devRef .tc r) = V (Proc.devRef .tc r)
      ∧ after trip V (Proc.devRef .tc r) = V (Proc.devRef .tc r) ∧ after post V (Proc.devRef .tc r) = V (Proc.devRef .tc r) := by
  rcases hr with rfl | rfl <;> refine ⟨?_, ?_, ?_, ?_⟩ <;> after_reads_simp

/-- After any number of trips the arguments are those the run began with. -/
theorem kept_count {r : Ref sig .tc} (hr : r = main_arg0 ∨ r = main_arg1) (c : Dev nD) :
    ∀ t, atCount m t c (Proc.devRef .tc r) = m ((c.tc : Thread nD τ).loc r)
  | 0 => (kept hr _).1
  | t + 1 => (kept hr _).2.2.1.trans ((kept hr _).2.1.trans (kept_count hr c t))

/-- What the buffers hold once the loop's condition has failed. -/
abbrev loopEnd (c : Dev nD) : Valuation τ sig (Elt F) := after test (atCount m 20 c)

/-- The operations after the loop lay out the boxes and the scores. -/
theorem post_arguments (V : Valuation τ sig (Elt F)) :
    after post V (Proc.devRef .tc main_v19)
        = broadcastInDim S1x20000x4 ![1, 2] bcast_S20000x4_S1x20000x4_1_2 (V (Proc.devRef .tc main_arg0))
      ∧ after post V (Proc.devRef .tc main_v21) = broadcastInDim S1x80x20000 ![1, 2] bcast_S80x20000_S1x80x20000_1_2
        (transpose S80x20000 [1, 0] (V (Proc.devRef .tc main_arg1)) transposes_S20000x80_S80x20000_1_0) := by
  constructor <;> after_reads_simp

/-- On every device, for any float values, from any memory whose counters are zero, every weakly fair execution of the
    reference ends; the first two results are the arguments laid out anew, the third is what the operations after
    the loop make of what the loop leaves, and the arguments are as they were. -/
theorem run (ρ : Dev nD → PrngReg) : θ_run (defs (F := F)) (onTc (τ := τ) (main (F := F))) ⟨m, fun _ => 0, ρ⟩ fun r => ∀ c : Dev nD,
    r.2.mem ((c.tc : Thread nD τ).loc main_v19)
        = broadcastInDim S1x20000x4 ![1, 2] bcast_S20000x4_S1x20000x4_1_2 (m ((c.tc : Thread nD τ).loc main_arg0))
      ∧ r.2.mem ((c.tc : Thread nD τ).loc main_v21) = broadcastInDim S1x80x20000 ![1, 2] bcast_S80x20000_S1x80x20000_1_2
        (transpose S80x20000 [1, 0] (m ((c.tc : Thread nD τ).loc main_arg1)) transposes_S20000x80_S80x20000_1_0)
      ∧ r.2.mem ((c.tc : Thread nD τ).loc main_v22) = after post (loopEnd m c) (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_loop (pcfgs (F := F)) defs₀ loops main 0 main_while0_cond main_while0_body rfl
    [pre] [trip] [post] test plain.1 plain.2.1 plain.2.2 main_eq trip_eq 20 m ρ (test_spec m))
  have arg : ∀ {r : Ref sig .tc}, r = main_arg0 ∨ r = main_arg1 →
      loopEnd m c (Proc.devRef .tc r) = m ((c.tc : Thread nD τ).loc r) := fun hr =>
    (kept hr _).2.1.trans (kept_count m hr c 20)
  refine ⟨(h c main_v19 rfl).trans ((post_arguments _).1.trans ?_), (h c main_v21 rfl).trans ((post_arguments _).2.trans ?_),
    h c main_v22 rfl, (h c main_arg0 rfl).trans ((kept (.inl rfl) _).2.2.2.trans (arg (.inl rfl))),
    (h c main_arg1 rfl).trans ((kept (.inr rfl) _).2.2.2.trans (arg (.inr rfl)))⟩
  · exact congrArg _ (arg (.inl rfl))
  · rw [show after test (atCount m 20 c) (Proc.devRef .tc main_arg1) = _ from arg (.inr rfl)]

end Cert.ReferenceIdeal.Value

end
-- ==== Proof.RefSearch.lean ====
/- The reference's search for the greatest score of each of its eighty rows: over the extended reals it finds
   `Nms.first` of the row, and the flag beside it, as long as no score is +∞, says whether `Nms.top` is above −∞. -/
module

public import proofs.«01_k».proof.Proof.Gen.ReferenceIdeal
public import proofs.«01_k».proof.Proof.Spec

@[expose] public section

set_option maxRecDepth 16384

noncomputable section

namespace Cert.ReferenceIdeal.Value

open Idealize.ShloMosaic Idealize.ShloMosaic.TcCoe Cert.ReferenceIdeal.Gen

/-- Row `r` of the scores. -/
abbrev row (s : FVec Ideal S80x20000 .f32) (r : Fin 80) : Fin 20000 → EReal := fun j => s (ix2 r j)

/-! ## The search for the greatest score -/

/-- One comparison of the search, over the extended reals, is `Nms.better`. -/
theorem reducer_eq (a b : EReal × BitVec 32) :
    reducer_argmax_f32_i32 (F := Ideal) a b = Nms.better a b := by
  obtain ⟨a1, a2⟩ := a
  obtain ⟨b1, b2⟩ := b
  unfold reducer_argmax_f32_i32 Nms.better
  simp only [Ideal.cmpf_def, Ideal.cmp, IntOp.cmpi, IntOp.ori, IntOp.andi, Scalar.select]
  rcases lt_trichotomy a1 b1 with h | h | h
  · simp [h, h.not_gt, h.ne]
  · subst h
    by_cases h2 : a2.toInt < b2.toInt <;> simp [h2, BitVec.slt]
  · simp [h, h.not_gt, h.ne']

/-- The first coordinate is what a reduction along the second keeps. -/
theorem drop_eq_iff (i : S80x20000.Idx) (r : Fin 80) :
    reducesTo_S80x20000_S80_d1.drop i = ix1 r ↔ i 0 = r := by
  have h0 : (reducesTo_S80x20000_S80_d1.drop i 0 : Nat) = i 0 :=
    Shape.ReducesTo.drop_apply_val_of_eq reducesTo_S80x20000_S80_d1 i 0 0
  constructor
  · intro h
    have := congrFun h 0
    exact Fin.ext (h0.symm.trans (congrArg Fin.val this))
  · intro h
    funext b
    obtain rfl : b = 0 := Subsingleton.elim _ _
    exact Fin.ext (h0.trans (congrArg Fin.val h))

/-- The index the search finds in every row. -/
def index (s : FVec Ideal S80x20000 .f32) : IVec S80 32 := fun j =>
  (Host.argReduce (F := Ideal) reducer_argmax_f32_i32 s (iotaInDim S80x20000 32 1) (constant S_ .f32 0xFF800000#32)
    (constantI S_ 32 0#32) reducesTo_S80x20000_S80_d1 h_S_ j).2

/-- The index found in row `r` is the first box that has the row's greatest score. -/
theorem index_row (s : FVec Ideal S80x20000 .f32) (r : Fin 80) :
    index s (ix1 r) = BitVec.ofNat 32 (Nms.first (row s r)).val := by
  unfold index
  rw [Ideal.argReduce_eq_reduce2, Host.reduce2_eq_foldl_fiber]
  rw [show (reducer_argmax_f32_i32 (F := Ideal)) = Nms.better from funext fun a => funext fun b => reducer_eq a b]
  rw [show (constant (F := Ideal) S_ .f32 0xFF800000#32) (Shape.Idx.first h_S_) = (⊥ : EReal) from Nms.negInf]
  refine Nms.foldl_better_first le_rfl (row s r) _ fun p => ?_
  unfold Host.argReduceFiber
  rw [List.mem_map]
  constructor
  · rintro ⟨n, hn, rfl⟩
    have hn := of_decide_eq_true (List.mem_filter.mp hn).2
    generalize S80x20000.rowMajor.symm n = i at hn ⊢
    rw [drop_eq_iff] at hn
    subst hn
    exact ⟨i 1, Prod.ext (congrArg s (eq_ix2 i)) rfl⟩
  · rintro ⟨k, rfl⟩
    refine ⟨S80x20000.rowMajor (ix2 r k), List.mem_filter.mpr ⟨List.mem_finRange _, decide_eq_true ?_⟩, ?_⟩
    · rw [Equiv.symm_apply_apply]; exact (drop_eq_iff _ r).mpr rfl
    · rw [Equiv.symm_apply_apply]; rfl

/-- The flag of every row: whether the greatest score's magnitude is below +∞. -/
def flag (s : FVec Ideal S80x20000 .f32) : IVec S80 1 :=
  cmpf (F := Ideal) .olt (Host.absf (Host.reduce (FloatOps.maximumf (F := Ideal)) s (constant (F := Ideal) S_ .f32 0xFF800000#32) reducesTo_S80x20000_S80_d1 h_S_))
    (broadcastInDim S80 ![] bcast_S_S80 (constant S_ .f32 0x7F800000#32))

/-- With every score below +∞, row `r`'s flag says whether its greatest score is above −∞. -/
theorem flag_row (s : FVec Ideal S80x20000 .f32) (r : Fin 80) (h : ∀ j, row s r j < ⊤) :
    flag s (ix1 r) = BitVec.ofBool (decide (⊥ < Nms.top (row s r))) := by
  pointwise [flag]
  rw [Nms.fold_max (row s r), Nms.posInf, Ideal.absf_def]
  simp only [Nms.abs_lt_top_iff _ (Nms.top_lt_top _ h)]

end Cert.ReferenceIdeal.Value

end
-- ==== Proof.RefRows.lean ====
/- What one trip of the reference's loop makes of the buffers it carries, and the same row by row: over the extended
   reals each row of scores takes one step of `Cert.Nms`, as long as no score is +∞. -/
module

public import proofs.«01_k».proof.Proof.RefRun
public import proofs.«01_k».proof.Proof.RefSearch

@[expose] public section

set_option maxRecDepth 16384

noncomputable section

namespace Cert.ReferenceIdeal.Value

open Idealize.ShloMosaic Idealize.ShloMosaic.TcCoe Idealize.ShloMosaic.StableHlo Cert.ReferenceIdeal.Gen

/-- Corner coordinate `a` of every box. -/
abbrev coord (b : FVec Ideal S20000x4 .f32) (a : Fin 4) : Fin 20000 → EReal := fun j => b (ix2 j a)

/-! ## The chosen boxes -/

/-- The rows of the boxes' array at the given indices, an index below zero counted from the end. -/
def chosen (b : FVec Ideal S20000x4 .f32) (i : IVec S80 32) : FVec Ideal S80x4 .f32 :=
  shapeCast S80x4 (Host.gather gather_S20000x4_S80x2_S80x1x4_12_n_n_n_01_1_14 b (concatenate S80x2 1 [⟨S80x1, (broadcastInDim S80x1 ![0] bcast_S80_S80x1_0 (select (cmpi .slt i (broadcastInDim S80 ![] bcast_S_S80 (constantI S_ 32 0#32))) (addi i (broadcastInDim S80 ![] bcast_S_S80 (constantI S_ 32 20000#32))) i))⟩, ⟨S80x1, (broadcastInDim S80x1 ![] bcast_S_S80x1 (select (cmpi .slt (constantI S_ 32 0#32) (constantI S_ 32 0#32)) (addi (constantI S_ 32 0#32) (constantI S_ 32 4#32)) (constantI S_ 32 0#32)))⟩] concatenates_S80x1_S80x1_S80x2_d1)) shapeCasts_S80x1x4_S80x4

/-- The gather at row `r` reads the box whose number is the first component of its start. -/
theorem gather_row (b : FVec Ideal S20000x4 .f32) (i : IVec S80x2 32) (r : Fin 80) (a : Fin 4) (k : Fin 20000)
    (h0 : i (ix2 r 0) = BitVec.ofNat 32 k.val) (h1 : i (ix2 r 1) = 0#32) :
    Host.gather gather_S20000x4_S80x2_S80x1x4_12_n_n_n_01_1_14 b i (ix3 r (0 : Fin 1) a) = b (ix2 k a) := by
  unfold Host.gather
  congr 1
  funext x
  refine Fin.ext ?_
  have hs0 : gather_S20000x4_S80x2_S80x1x4_12_n_n_n_01_1_14.siIdx (ix3 r (0 : Fin 1) a) (0 : Fin 2) = ix2 r 0 := by
    funext y
    match y with
    | ⟨0, _⟩ => rfl
    | ⟨1, _⟩ => rfl
  have hs1 : gather_S20000x4_S80x2_S80x1x4_12_n_n_n_01_1_14.siIdx (ix3 r (0 : Fin 1) a) (1 : Fin 2) = ix2 r 1 := by
    funext y
    match y with
    | ⟨0, _⟩ => rfl
    | ⟨1, _⟩ => rfl
  match x with
  | ⟨0, _⟩ =>
    show min (i (gather_S20000x4_S80x2_S80x1x4_12_n_n_n_01_1_14.siIdx (ix3 r (0 : Fin 1) a) (0 : Fin 2))).toInt.toNat (20000 - 1) + 0 + 0 = k.val
    rw [hs0, h0, BitVec.toInt_eq_toNat_cond, BitVec.toNat_ofNat]
    have := k.isLt
    split <;> omega
  | ⟨1, _⟩ =>
    show min (i (gather_S20000x4_S80x2_S80x1x4_12_n_n_n_01_1_14.siIdx (ix3 r (0 : Fin 1) a) (1 : Fin 2))).toInt.toNat (4 - 4) + 0 + a.val = a.val
    simp

/-- The chosen box of row `r`, at an index that is a box number. -/
theorem chosen_row (b : FVec Ideal S20000x4 .f32) (i : IVec S80 32) (r : Fin 80) (a : Fin 4) (k : Fin 20000)
    (h : i (ix1 r) = BitVec.ofNat 32 k.val) : chosen b i (ix2 r a) = coord b a k := by
  pointwise [chosen]
  refine gather_row b _ r a k ?_ ?_
  · pointwise []
    have hk : (BitVec.ofNat 32 k.val).toInt = (k.val : ℤ) := by
      have := k.isLt
      rw [BitVec.toInt_eq_toNat_cond, BitVec.toNat_ofNat]; split <;> omega
    rw [h]
    rw [show IntOp.cmpi .slt (BitVec.ofNat 32 k.val) 0#32 = 0#1 by
      simp only [IntOp.cmpi, BitVec.slt, hk, BitVec.toInt_zero, decide_eq_false (Int.not_lt.mpr (Int.natCast_nonneg k.val))]
      rfl]
    rfl
  · pointwise []
    decide

/-! ## The overlaps -/

/-- One value a class, for every box. -/
def across {α : Type} (x : S80.Idx → α) : S80x20000.Idx → α :=
  broadcastInDim S80x20000 ![0, 1] bcast_S80x1_S80x20000_0_1 (broadcastInDim S80x1 ![0] bcast_S80_S80x1_0 x)

/-- One value a box, for every class. -/
def down {α : Type} (x : S20000.Idx → α) : S80x20000.Idx → α :=
  broadcastInDim S80x20000 ![0, 1] bcast_S1x20000_S80x20000_0_1 (broadcastInDim S1x20000 ![1] bcast_S20000_S1x20000_1 x)

/-- One value for all. -/
def everywhere {α : Type} (x : S_.Idx → α) : S80x20000.Idx → α := broadcastInDim S80x20000 ![] bcast_S_S80x20000 x

/-- A coordinate of the chosen boxes. -/
def ofChosen (c : FVec Ideal S80x4 .f32) (a : ℕ) (h : S80x4.Slices ![0, a] S80x1) : FVec Ideal S80 .f32 :=
  shapeCast S80 (extractStridedSlice S80x1 ![0, a] c h) shapeCasts_S80x1_S80

/-- A coordinate of all boxes. -/
def ofAll (b : FVec Ideal S20000x4 .f32) (a : ℕ) (h : S20000x4.Slices ![0, a] S20000x1) : FVec Ideal S20000 .f32 :=
  shapeCast S20000 (extractStridedSlice S20000x1 ![0, a] b h) shapeCasts_S20000x1_S20000

/-- How far the chosen boxes and all boxes share the side between coordinates `a` and `a'`, nothing below zero. -/
def common (b : FVec Ideal S20000x4 .f32) (c : FVec Ideal S80x4 .f32) (a a' : ℕ) (h : S80x4.Slices ![0, a] S80x1)
    (h' : S80x4.Slices ![0, a'] S80x1) (g : S20000x4.Slices ![0, a] S20000x1) (g' : S20000x4.Slices ![0, a'] S20000x1) :
    FVec Ideal S80x20000 .f32 :=
  maximumf (everywhere (constant S_ .f32 0x00000000#32))
    (subf (minimumf (across (ofChosen c a' h')) (down (ofAll b a' g'))) (maximumf (across (ofChosen c a h)) (down (ofAll b a g))))

/-- The area every chosen box has in common with every box. -/
def commonArea (b : FVec Ideal S20000x4 .f32) (c : FVec Ideal S80x4 .f32) : FVec Ideal S80x20000 .f32 :=
  mulf (common b c 0 2 slices_S80x4_S80x1_0_0 slices_S80x4_S80x1_0_2 slices_S20000x4_S20000x1_0_0 slices_S20000x4_S20000x1_0_2)
    (common b c 1 3 slices_S80x4_S80x1_0_1 slices_S80x4_S80x1_0_3 slices_S20000x4_S20000x1_0_1 slices_S20000x4_S20000x1_0_3)

/-- The common area over the area covered together, a small constant added. -/
def overlaps (b : FVec Ideal S20000x4 .f32) (c : FVec Ideal S80x4 .f32) : FVec Ideal S80x20000 .f32 :=
  Host.divf (commonArea b c)
    (addf (subf (addf
      (across (mulf (subf (ofChosen c 2 slices_S80x4_S80x1_0_2) (ofChosen c 0 slices_S80x4_S80x1_0_0))
        (subf (ofChosen c 3 slices_S80x4_S80x1_0_3) (ofChosen c 1 slices_S80x4_S80x1_0_1))))
      (down (mulf (subf (ofAll b 2 slices_S20000x4_S20000x1_0_2) (ofAll b 0 slices_S20000x4_S20000x1_0_0))
        (subf (ofAll b 3 slices_S20000x4_S20000x1_0_3) (ofAll b 1 slices_S20000x4_S20000x1_0_1)))))
      (commonArea b c)) (everywhere (constant S_ .f32 0x3089705F#32)))

/-- The scores with −∞ where the mask says. -/
def strike (p : IVec S80x20000 1) (s : FVec Ideal S80x20000 .f32) : FVec Ideal S80x20000 .f32 :=
  select p (broadcastInDim S80x20000 ![1] bcast_S20000_S80x20000_1 (broadcastInDim S20000 ![] bcast_S_S20000 (constant S_ .f32 0xFF800000#32))) s

/-- The scores after a trip: those of the boxes that overlap the chosen one too much struck, then the chosen ones'. -/
def suppress (s : FVec Ideal S80x20000 .f32) (i : IVec S80 32) (f : IVec S80 1) (o : FVec Ideal S80x20000 .f32) :
    FVec Ideal S80x20000 .f32 :=
  strike (cmpi .eq (down (iotaInDim S20000 32 0)) (across i))
    (strike (andi (cmpf .ogt o (everywhere (constant S_ .f32 0x3DCCCCCD#32))) (across f)) s)

/-! ## The table of reported numbers -/

/-- The table of reported numbers with `u` written in row `n`. -/
def write (T : IVec S20x80 32) (n : IVec S_ 32) (u : IVec S80 32) : IVec S20x80 32 :=
  Host.dynamicUpdateSlice T (broadcastInDim S1x80 ![1] bcast_S80_S1x80_1 u)
    (fun k => (((![n, constantI S_ 32 0#32] : Fin 2 → IVec S_ 32)) k (Shape.Idx.first h_S_)).toInt) updateFits_S20x80_S1x80

/-- Writing row `k` leaves the other rows. -/
theorem write_apply (T : IVec S20x80 32) (u : IVec S80 32) (k : ℕ) (hk : k < 20) (t : Fin 20) (r : Fin 80) :
    write T (fun _ => BitVec.ofNat 32 k) u (ix2 t r) = if t.val = k then u (ix1 r) else T (ix2 t r) := by
  have h0 : Host.clampedStart S20x80 S1x80 updateFits_S20x80_S1x80.1
      (fun a => (((![fun _ => BitVec.ofNat 32 k, constantI S_ 32 0#32] : Fin 2 → IVec S_ 32)) a (Shape.Idx.first h_S_)).toInt) 0 = k := by
    refine Host.clampedStart_of_le _ _ 0 k ?_ (show k + 1 ≤ 20 by omega)
    show (BitVec.ofNat 32 k).toInt = _
    rw [BitVec.toInt_eq_toNat_cond, BitVec.toNat_ofNat]; split <;> omega
  have h1 : Host.clampedStart S20x80 S1x80 updateFits_S20x80_S1x80.1
      (fun a => (((![fun _ => BitVec.ofNat 32 k, constantI S_ 32 0#32] : Fin 2 → IVec S_ 32)) a (Shape.Idx.first h_S_)).toInt) 1 = 0 :=
    Host.clampedStart_of_le _ _ 1 0 rfl (by decide)
  have hr := r.isLt
  unfold write
  rw [Host.dynamicUpdateSlice_apply]
  by_cases ht : t.val = k
  · rw [if_pos ht, dif_pos]
    · pointwise [h1]
    · intro a
      match a with
      | ⟨0, _⟩ => exact ⟨h0.le.trans ht.ge, by show t.val < _ + 1; erw [h0]; omega⟩
      | ⟨1, _⟩ => exact ⟨h1.le.trans (Nat.zero_le _), by show r.val < _ + 80; erw [h1]; omega⟩
  · rw [if_neg ht, dif_neg]
    intro h
    have h2 := h 0
    have h3 : Host.clampedStart S20x80 S1x80 updateFits_S20x80_S1x80.1 _ 0 ≤ t.val
      ∧ t.val < Host.clampedStart S20x80 S1x80 updateFits_S20x80_S1x80.1 _ 0 + 1 := h2
    rw [h0] at h3
    omega

/-! ## One trip of the loop -/

/-- The numbers a trip reports: the index found where the flag is set, −1 elsewhere. -/
def report (s : FVec Ideal S80x20000 .f32) : IVec S80 32 :=
  select (flag s) (index s) (broadcastInDim S80 ![] bcast_S_S80 (constantI S_ 32 4294967295#32))

variable (V : Valuation τ sig (Elt Ideal))

/-- The boxes after a trip. -/
theorem trip_boxes : after (trip (F := Ideal)) V (Proc.devRef .tc main_v4_0) = V (Proc.devRef .tc main_v4_0) := by
  after_reads_simp

/-- The operations of a trip that find the index, the flag and the chosen boxes. -/
def search : List (HloOp τ sig (Elt Ideal)) := trip.take 31

/-- The operations of a trip that follow. -/
def update : List (HloOp τ sig (Elt Ideal)) := trip.drop 31

/-- A trip searches, then updates. -/
theorem trip_cut : after (trip (F := Ideal)) V = after update (after search V) := by
  rw [search, update, ← after_append, List.take_append_drop]

/-- The search leaves the boxes and the scores. -/
theorem search_carried : after search V (Proc.devRef .tc main_v4_0) = V (Proc.devRef .tc main_v4_0)
    ∧ after search V (Proc.devRef .tc main_v4_2) = V (Proc.devRef .tc main_v4_2) := by
  constructor <;> after_reads_simp

/-- The index the search finds. -/
theorem search_index : after search V (Proc.devRef .tc main_while0b_v23) = index (V (Proc.devRef .tc main_v4_2)) := by
  after_reads_simp [TRef.ofBuf_toBuf]
  rfl

/-- The flag the search sets. -/
theorem search_flag : after search V (Proc.devRef .tc main_while0b_v27) = flag (V (Proc.devRef .tc main_v4_2)) := by
  after_reads_simp [TRef.ofBuf_toBuf]
  rfl

/-- The boxes the search chooses. -/
theorem search_chosen : after search V (Proc.devRef .tc main_while0b_v40)
    = chosen (V (Proc.devRef .tc main_v4_0)) (index (V (Proc.devRef .tc main_v4_2))) := by
  have h0 : upto search V 28 (Proc.devRef .tc main_while0b_v36) = broadcastInDim S80x1 ![0] bcast_S80_S80x1_0
      (select (cmpi .slt (after search V (Proc.devRef .tc main_while0b_v23)) (broadcastInDim S80 ![] bcast_S_S80 (constantI S_ 32 0#32)))
        (addi (after search V (Proc.devRef .tc main_while0b_v23)) (broadcastInDim S80 ![] bcast_S_S80 (constantI S_ 32 20000#32)))
        (after search V (Proc.devRef .tc main_while0b_v23))) := by
    after_reads_simp
  have h1 : upto search V 28 (Proc.devRef .tc main_while0b_v37) = broadcastInDim S80x1 ![] bcast_S_S80x1
      (select (cmpi .slt (constantI S_ 32 0#32) (constantI S_ 32 0#32)) (addi (constantI S_ 32 0#32) (constantI S_ 32 4#32)) (constantI S_ 32 0#32)) := by
    after_reads_simp
  rw [search_index] at h0
  after_reads_simp
  rw [h0, h1]
  unfold chosen
  rfl

/-- The scores the update makes of the chosen boxes. -/
theorem update_scores : after update V (Proc.devRef .tc main_v4_2)
    = suppress (V (Proc.devRef .tc main_v4_2)) (V (Proc.devRef .tc main_while0b_v23)) (V (Proc.devRef .tc main_while0b_v27))
      (overlaps (V (Proc.devRef .tc main_v4_0)) (V (Proc.devRef .tc main_while0b_v40))) := by
  after_reads_simp [TRef.ofBuf_toBuf]
  unfold suppress strike overlaps commonArea common across down everywhere ofChosen ofAll
  rfl

/-- The scores after a trip. -/
theorem trip_scores : after (trip (F := Ideal)) V (Proc.devRef .tc main_v4_2)
    = suppress (V (Proc.devRef .tc main_v4_2)) (index (V (Proc.devRef .tc main_v4_2))) (flag (V (Proc.devRef .tc main_v4_2)))
      (overlaps (V (Proc.devRef .tc main_v4_0)) (chosen (V (Proc.devRef .tc main_v4_0)) (index (V (Proc.devRef .tc main_v4_2))))) := by
  rw [trip_cut, update_scores, search_index, search_flag, search_chosen, (search_carried V).1, (search_carried V).2]

/-- The table after a trip. -/
theorem trip_table : after (trip (F := Ideal)) V (Proc.devRef .tc main_v4_3)
    = write (V (Proc.devRef .tc main_v4_3)) (V (Proc.devRef .tc main_v4_1)) (report (V (Proc.devRef .tc main_v4_2))) := by
  after_reads_simp [binaryIndexed_result_read, indexContents_tref_cons, indexContents_tref_empty, TRef.ofBuf_toBuf]
  unfold write report index flag
  rfl

/-! ## Row by row -/

/-- A row's overlaps with its chosen box. -/
theorem overlaps_row (b : FVec Ideal S20000x4 .f32) (c : FVec Ideal S80x4 .f32) (r : Fin 80) (k : Fin 20000)
    (hk : ∀ a, c (ix2 r a) = coord b a k) (j : Fin 20000) :
    overlaps b c (ix2 r j) = Nms.overlap (coord b 0) (coord b 1) (coord b 2) (coord b 3) k j := by
  pointwise [overlaps, commonArea, common, across, down, everywhere, ofChosen, ofAll]
  rw [hk 0, hk 1, hk 2, hk 3]
  rfl

/-- The scores after a trip at one class and box, of the class's index, flag and overlap. -/
theorem suppress_apply {s : FVec Ideal S80x20000 .f32} {i : IVec S80 32} {f : IVec S80 1} {o : FVec Ideal S80x20000 .f32}
    {r : Fin 80} {j k : Fin 20000} {A : Prop} [Decidable A] {x : EReal}
    [Decidable ((Ideal.ofBits .f32 0x3DCCCCCD#32 < x ∧ A) ∨ j = k)]
    (hi : i (ix1 r) = BitVec.ofNat 32 k.val) (hf : f (ix1 r) = BitVec.ofBool (decide A)) (ho : o (ix2 r j) = x) :
    suppress s i f o (ix2 r j) = if (Ideal.ofBits .f32 0x3DCCCCCD#32 < x ∧ A) ∨ j = k then ⊥ else s (ix2 r j) := by
  pointwise [suppress, strike, across, down, everywhere]
  rw [hi, hf, ho, Nms.negInf, Nms.eq_word le_rfl]
  exact Nms.select_select _ _ _ _ _

/-- The scores after a trip are one step on in every row. -/
theorem suppress_row (s : FVec Ideal S80x20000 .f32) (b : FVec Ideal S20000x4 .f32) (r : Fin 80)
    (h : ∀ j, row s r j < ⊤) :
    row (suppress s (index s) (flag s) (overlaps b (chosen b (index s)))) r
      = Nms.next (coord b 0) (coord b 1) (coord b 2) (coord b 3) (row s r) := by
  classical
  funext j
  refine (suppress_apply (index_row s r) (flag_row s r h)
    (overlaps_row b _ r _ (fun a => chosen_row b _ r a _ (index_row s r)) j)).trans ?_
  unfold Nms.next
  congr

/-- The numbers a trip reports, class by class. -/
theorem report_row (s : FVec Ideal S80x20000 .f32) (r : Fin 80) (h : ∀ j, row s r j < ⊤) :
    report s (ix1 r) = Nms.pick (row s r) := by
  pointwise [report]
  rw [flag_row s r h, index_row]
  exact Nms.select_pick _

end Cert.ReferenceIdeal.Value

end
-- ==== Proof.RefTable.lean ====
/- What the reference's loop leaves in its table of reported numbers: row `t`, class `r` holds what the greedy
   suppression of class `r`'s scores reports at step `t`, as long as no score is +∞. -/
module

public import proofs.«01_k».proof.Proof.RefRows

@[expose] public section

set_option maxRecDepth 16384

noncomputable section

namespace Cert.ReferenceIdeal.Value

open Idealize.ShloMosaic Idealize.ShloMosaic.TcCoe Cert.ReferenceIdeal.Gen
open Idealize.ShloMosaic.StableHlo

variable (m : (ℓ : Loc nD τ sig) → Buf (Elt Ideal) ℓ)

/-! ## The loop's entry -/

/-- The scores the loop begins with: the argument's transpose, those under three tenths at −∞. -/
def begin (u : FVec Ideal S20000x80 .f32) : FVec Ideal S80x20000 .f32 :=
  select (transpose S80x20000 [1, 0] (cmpf .oge u (broadcastInDim S20000x80 ![] bcast_S_S20000x80 (constant (F := Ideal) S_ .f32 0x3E99999A#32))) transposes_S20000x80_S80x20000_1_0)
    (transpose S80x20000 [1, 0] u transposes_S20000x80_S80x20000_1_0)
    (broadcastInDim S80x20000 ![1] bcast_S20000_S80x20000_1 (broadcastInDim S20000 ![] bcast_S_S20000 (constant (F := Ideal) S_ .f32 0xFF800000#32)))

/-- Row by row the scores begin as `Nms.start` says. -/
theorem begin_row (u : FVec Ideal S20000x80 .f32) (r : Fin 80) : row (begin u) r = Nms.start fun j => u (ix2 j r) := by
  funext j
  pointwise [begin]
  rw [Nms.negInf]
  unfold Nms.start
  split <;> rfl

/-- The boxes at the loop's entry are the argument. -/
theorem entry_boxes (V : Valuation τ sig (Elt Ideal)) :
    after (pre (F := Ideal)) V (Proc.devRef .tc main_v4_0) = V (Proc.devRef .tc main_arg0) := by
  after_reads_simp
  rfl

/-- The scores at the loop's entry. -/
theorem entry_scores (V : Valuation τ sig (Elt Ideal)) :
    after (pre (F := Ideal)) V (Proc.devRef .tc main_v4_2) = begin (V (Proc.devRef .tc main_arg1)) := by
  after_reads_simp
  rfl

/-! ## The whole loop -/

/-- The corners of the boxes held by the argument, and the scores of one class. -/
abbrev steps (b : FVec Ideal S20000x4 .f32) (u : FVec Ideal S20000x80 .f32) (r : Fin 80) (t : ℕ) : Fin 20000 → EReal :=
  Nms.after (coord b 0) (coord b 1) (coord b 2) (coord b 3) (fun j => u (ix2 j r)) t

/-- The boxes of the argument on device `c`. -/
abbrev boxesOf (c : Dev nD) : FVec Ideal S20000x4 .f32 := m ((c.tc : Thread nD τ).loc main_arg0)

/-- The scores of the argument on device `c`. -/
abbrev scoresOf (c : Dev nD) : FVec Ideal S20000x80 .f32 := m ((c.tc : Thread nD τ).loc main_arg1)

/-- What the buffers the loop carries hold after `t` trips. -/
structure After (b : FVec Ideal S20000x4 .f32) (u : FVec Ideal S20000x80 .f32) (t : ℕ) (V0 : Valuation τ sig (Elt Ideal)) : Prop where
  boxes : V0 (Proc.devRef .tc main_v4_0) = b
  count : V0 (Proc.devRef .tc main_v4_1) = fun _ => BitVec.ofNat 32 t
  scores : ∃ s : FVec Ideal S80x20000 .f32, V0 (Proc.devRef .tc main_v4_2) = s ∧ ∀ r, row s r = steps b u r t
  table : ∃ T : IVec S20x80 32, V0 (Proc.devRef .tc main_v4_3) = T
    ∧ ∀ (k : Fin 20) (r : Fin 80), k.val < t → T (ix2 k r) = Nms.pick (steps b u r k.val)

/-- At its entry the loop has made no trip. -/
theorem after_zero (c : Dev nD) : After (boxesOf m c) (scoresOf m c) 0 (atCount m 0 c) where
  boxes := entry_boxes _
  count := count_eq m c 0
  scores := ⟨_, entry_scores _, fun r => begin_row _ r⟩
  table := ⟨_, rfl, fun _ _ h => absurd h (Nat.not_lt_zero _)⟩

/-- The condition's operations leave what the loop carries. -/
theorem After.test {b : FVec Ideal S20000x4 .f32} {u : FVec Ideal S20000x80 .f32} {t : ℕ} {V : Valuation τ sig (Elt Ideal)}
    (h : After b u t V) : After b u t (after Value.test V) := by
  have keep : ∀ {r : Ref sig .tc}, r = main_v4_0 ∨ r = main_v4_1 ∨ r = main_v4_2 ∨ r = main_v4_3 →
      after (Value.test (F := Ideal)) V (Proc.devRef .tc r) = V (Proc.devRef .tc r) := by
    rintro r (rfl | rfl | rfl | rfl) <;> after_reads_simp
  refine ⟨(keep (by simp)).trans h.boxes, (keep (by simp)).trans h.count, ?_, ?_⟩
  · obtain ⟨s, hs, hrow⟩ := h.scores
    exact ⟨s, (keep (by simp)).trans hs, hrow⟩
  · obtain ⟨T, hT, htab⟩ := h.table
    exact ⟨T, (keep (by simp)).trans hT, htab⟩

/-- A trip adds one. -/
theorem After.trip {b : FVec Ideal S20000x4 .f32} {u : FVec Ideal S20000x80 .f32} {t : ℕ} {V : Valuation τ sig (Elt Ideal)}
    (h : After b u t V) (ht : t < 20) (hu : ∀ j r, u (ix2 j r) < ⊤) : After b u (t + 1) (after Value.trip V) := by
  obtain ⟨s, hs, hrow⟩ := h.scores
  obtain ⟨T, hT, htab⟩ := h.table
  have hlt : ∀ r j, row s r j < ⊤ := fun r j => by
    rw [hrow r]; exact Nms.after_lt_top _ _ _ _ _ (fun j => hu j r) t j
  refine ⟨(trip_boxes V).trans h.boxes, ?_, ⟨_, trip_scores V, fun r => ?_⟩, ⟨_, trip_table V, fun k r hk => ?_⟩⟩
  · rw [trip_count, h.count]
    funext i
    show BitVec.ofNat 32 t + 1#32 = BitVec.ofNat 32 (t + 1)
    rw [BitVec.ofNat_add]
  · rw [hs, h.boxes]
    refine (suppress_row s b r (hlt r)).trans ?_
    rw [hrow r]
    exact (Nms.after_succ _ _ _ _ _ t).symm
  · rw [hs, hT, h.count]
    refine (write_apply T _ t ht k r).trans ?_
    split
    · rename_i hkt
      rw [report_row s r (hlt r), hrow r, hkt]
    · exact htab k r (by omega)

/-- After `t` trips, `t` at most twenty, from the entry. -/
theorem after_trips (c : Dev nD) (hu : ∀ j r, scoresOf m c (ix2 j r) < ⊤) :
    ∀ t ≤ 20, After (boxesOf m c) (scoresOf m c) t (atCount m t c)
  | 0, _ => after_zero m c
  | t + 1, h => ((after_trips c hu t (by omega)).test).trip (by omega) hu

/-- The table the loop leaves: what each step reports of each class. -/
theorem table_apply (c : Dev nD) (hu : ∀ j r, scoresOf m c (ix2 j r) < ⊤)
    (t : Fin 20) (r : Fin 80) :
    (loopEnd m c) (Proc.devRef .tc main_v4_3) (ix2 t r) = Nms.pick (steps (boxesOf m c) (scoresOf m c) r t.val) := by
  obtain ⟨T, hT, h⟩ := ((after_trips m c hu 20 le_rfl).test).table
  exact (congrFun hT (ix2 t r)).trans (h t r t.isLt)

end Cert.ReferenceIdeal.Value

end
-- ==== Proof.Agree.lean ====
/- Kernel and reference agree over the extended reals as long as every score is below +∞: the kernel's array of
   reported numbers is the reference's table in another layout, and both programs list the triples of a table alike. -/
module

public import proofs.«01_k».proof.Defs
public import proofs.«01_k».proof.Proof.Decode
public import proofs.«01_k».proof.Proof.KernelEnd
public import proofs.«01_k».proof.Proof.RefTable

@[expose] public section

set_option maxRecDepth 16384

noncomputable section

namespace Cert.Proof

open Idealize.ShloMosaic Idealize.ShloMosaic.TcCoe Idealize.SL.Sem

/-- The kernel's numbers of class `r`, out of its array of blocks. -/
theorem flat_apply (P : IVec Cert.KernelIdeal.S5x20x16 32) (r : Fin 80) (t : Fin 20) :
    Cert.KernelIdeal.Run.flat P (ix2 r t) = P (ix3 (⟨r.val / 16, by omega⟩ : Fin 5) t (⟨r.val % 16, by omega⟩ : Fin 16)) := by
  pointwise [Cert.KernelIdeal.Run.flat]
  blk_ext []

/-- The kernel's array with a row per class is a table `T` of what each step reports, transposed. -/
theorem flat_reports (b : FVec Ideal Cert.KernelIdeal.S20000x4 .f32) (u : FVec Ideal Cert.KernelIdeal.S20000x80 .f32)
    (T : IVec Cert.ReferenceIdeal.S20x80 32)
    (h : ∀ (t : Fin 20) (r : Fin 80), T (ix2 t r) = Nms.pick (Cert.ReferenceIdeal.Value.steps b u r t.val)) :
    Cert.KernelIdeal.Run.flat (Cert.KernelIdeal.Run.reports
        (transpose Cert.KernelIdeal.S80x20000 [1, 0] u Cert.KernelIdeal.Gen.transposes_S20000x80_S80x20000_1_0)
        (transpose Cert.KernelIdeal.S4x20000 [1, 0] b Cert.KernelIdeal.Gen.transposes_S20000x4_S4x20000_1_0))
      = transpose Cert.ReferenceIdeal.S80x20 [1, 0] T Cert.ReferenceIdeal.Gen.transposes_S20x80_S80x20_1_0 := by
  have key : ∀ (r : Fin 80) (t : Fin 20), Cert.KernelIdeal.Run.flat (Cert.KernelIdeal.Run.reports
        (transpose Cert.KernelIdeal.S80x20000 [1, 0] u Cert.KernelIdeal.Gen.transposes_S20000x80_S80x20000_1_0)
        (transpose Cert.KernelIdeal.S4x20000 [1, 0] b Cert.KernelIdeal.Gen.transposes_S20000x4_S4x20000_1_0)) (ix2 r t)
      = T (ix2 t r) := by
    intro r t
    rw [h, flat_apply]
    have hc : ∀ a : Fin 4, Cert.KernelIdeal.Run.coord
        (transpose Cert.KernelIdeal.S4x20000 [1, 0] b Cert.KernelIdeal.Gen.transposes_S20000x4_S4x20000_1_0) a
          = Cert.ReferenceIdeal.Value.coord b a := fun a => funext fun j => by pointwise []
    have hu : ∀ r : Fin 80, (fun j : Fin 20000 =>
        transpose Cert.KernelIdeal.S80x20000 [1, 0] u Cert.KernelIdeal.Gen.transposes_S20000x80_S80x20000_1_0 (ix2 r j))
          = fun j => u (ix2 j r) := fun r => funext fun j => by pointwise []
    unfold Cert.KernelIdeal.Run.reports
    rw [hc, hc, hc, hc, hu]
    have hr : (⟨16 * (r.val / 16) + r.val % 16, by omega⟩ : Fin 80) = r := Fin.ext (Nat.div_add_mod r.val 16)
    exact congrArg (fun r => Nms.pick (Cert.ReferenceIdeal.Value.steps b u r t.val)) hr
  funext i
  obtain ⟨r, t, rfl⟩ : ∃ (r : Fin 80) (t : Fin 20), i = ix2 r t := by
    refine ⟨i 0, i 1, ?_⟩
    blk_ext []
  refine (key r t).trans ?_
  pointwise []

/-- The reference lists the triples of its table as the kernel's program lists those of its own. -/
theorem triples_eq (V : Valuation Cert.ReferenceIdeal.τ Cert.ReferenceIdeal.sig (Elt Ideal)) :
    StableHlo.after (Cert.ReferenceIdeal.Value.post (F := Ideal)) V (Proc.devRef .tc Cert.ReferenceIdeal.main_v22)
      = Cert.KernelIdeal.Run.triples (transpose Cert.ReferenceIdeal.S80x20 [1, 0]
        (V (Proc.devRef .tc Cert.ReferenceIdeal.main_v4_3)) Cert.ReferenceIdeal.Gen.transposes_S20x80_S80x20_1_0) := by
  after_reads_simp [StableHlo.TRef.ofBuf_toBuf]
  unfold Cert.KernelIdeal.Run.triples
  rfl

attribute [local instance] Cert.Pre_scores_below_infinity.facts

/-- The claim `algebraic` of kernel and reference. -/
theorem algebraic : Cert.algebraic_KernelIdeal_ReferenceIdeal_pre_scores_below_infinity := by
  intro m g m' g' hpre hagree
  refine ⟨_, _, _, Cert.KernelIdeal.Run.run m g, ?_⟩
  refine (θ_run Cert.ReferenceIdeal.defs _ _).mono (fun r h c => ?_) (Cert.ReferenceIdeal.Value.run (F := Ideal) m' g')
  obtain ⟨h0, h1, h2, ha0, ha1⟩ := h c
  have hu : ∀ j r, Cert.ReferenceIdeal.Value.scoresOf m' c (ix2 j r) < ⊤ := fun j r => by
    have e : Cert.ReferenceIdeal.Value.scoresOf m' c = m ((c.tc : Thread Cert.KernelIdeal.nD Cert.KernelIdeal.τ).loc Cert.KernelIdeal.main_arg1) :=
      (hagree c).2
    rw [e]
    exact Cert.Pre_scores_below_infinity.lt_top _ _ (hpre c) j r
  refine ⟨h0.trans ?_, h1.trans ?_, h2.trans ?_, ha0, ha1⟩
  · rw [(hagree c).1]
  · rw [(hagree c).2]
  · refine (triples_eq _).trans (congrArg Cert.KernelIdeal.Run.triples ?_)
    refine Eq.trans (flat_reports (Cert.ReferenceIdeal.Value.boxesOf m' c) (Cert.ReferenceIdeal.Value.scoresOf m' c) _
      (Cert.ReferenceIdeal.Value.table_apply m' c hu)).symm ?_
    unfold Cert.KernelIdeal.Run.rowsOf Cert.KernelIdeal.Run.cornersOf Cert.ReferenceIdeal.Value.boxesOf Cert.ReferenceIdeal.Value.scoresOf
    rw [(hagree c).1, (hagree c).2]

end Cert.Proof

end
-- ==== Proof.lean ====
/- The certificate: the frames of the kernel, of its idealization and of the reference, the idealization's faithfulness,
   and the agreement of kernel and reference over the extended reals where every score is below +∞. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Pre_scores_below_infinity.facts

/-- The kernel ends with its arguments unchanged and its counters at zero. -/
theorem frame_kernel : Cert.quiescent_Kernel := fun m ρ _ => Cert.Kernel.Gen.frame m ρ

/-- The idealized kernel ends with its arguments unchanged and its counters at zero. -/
theorem frame_kernelIdeal : Cert.quiescent_KernelIdeal := fun m ρ _ => Cert.KernelIdeal.Gen.frame m ρ

/-- The same where the scores are below +∞. -/
theorem frame_kernelIdeal_below : Cert.quiescent_KernelIdeal_pre_scores_below_infinity := fun m ρ _ =>
  Cert.KernelIdeal.Gen.frame m ρ

/-- The idealized reference ends with its arguments unchanged and its counters at zero. -/
theorem frame_referenceIdeal : Cert.quiescent_ReferenceIdeal := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

/-- The same where the scores are below +∞. -/
theorem frame_referenceIdeal_below : Cert.quiescent_ReferenceIdeal_pre_scores_below_infinity := fun m ρ _ =>
  frame_referenceIdeal m ρ trivial

/-- All claims together. -/
theorem claim : Cert.Claim :=
  ⟨Cert.Kernel.Gen.facts, Cert.KernelIdeal.Gen.facts, Cert.ReferenceIdeal.Gen.facts, Cert.Pre_scores_below_infinity.facts,
    frame_kernel, frame_kernelIdeal, frame_kernelIdeal_below, frame_referenceIdeal, frame_referenceIdeal_below, trivial,
    algebraic⟩

end Cert.Proof

end
